-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x2048x9344 : Shape := ⟨3, ![8, 2048, 9344]⟩
abbrev S8x2048 : Shape := ⟨2, ![8, 2048]⟩
abbrev S9344x12544 : Shape := ⟨2, ![9344, 12544]⟩
abbrev S12544 : Shape := ⟨1, ![12544]⟩
abbrev S_ : Shape := ⟨0, ![]⟩
abbrev S8x2048x1 : Shape := ⟨3, ![8, 2048, 1]⟩
abbrev S1x1x12544 : Shape := ⟨3, ![1, 1, 12544]⟩
abbrev S8x2048x12544 : Shape := ⟨3, ![8, 2048, 12544]⟩

class Facts : Prop where
  bcast_S_S8x2048x9344 : S_.BroadcastsInDim S8x2048x9344 (![] : Fin 0 → Fin S8x2048x9344.rank)
  bcast_S_S9344x12544 : S_.BroadcastsInDim S9344x12544 (![] : Fin 0 → Fin S9344x12544.rank)
  bcast_S8x2048_S8x2048x1_0_1 : S8x2048.BroadcastsInDim S8x2048x1 (![0, 1] : Fin 2 → Fin S8x2048x1.rank)
  bcast_S12544_S1x1x12544_2 : S12544.BroadcastsInDim S1x1x12544 (![2] : Fin 1 → Fin S1x1x12544.rank)
  bcast_S8x2048x1_S8x2048x12544_0_1_2 : S8x2048x1.BroadcastsInDim S8x2048x12544 (![0, 1, 2] : Fin 3 → Fin S8x2048x12544.rank)
  bcast_S1x1x12544_S8x2048x12544_0_1_2 : S1x1x12544.BroadcastsInDim S8x2048x12544 (![0, 1, 2] : Fin 3 → Fin S8x2048x12544.rank)
  bcast_S_S8x2048x12544 : S_.BroadcastsInDim S8x2048x12544 (![] : Fin 0 → Fin S8x2048x12544.rank)

variable [Facts]

def fn {F : FTy → Type} [FloatOps F] (main_arg0 : IVec S8x2048x9344 8) (main_arg1 : FVec F S8x2048 .f32) (main_arg2 : IVec S9344x12544 8) (main_arg3 : FVec F S12544 .f32) : IVec S8x2048x9344 1 × IVec S9344x12544 1 × IVec S8x2048x12544 1 :=
  let main_c : IVec S_ 8 := constantI S_ 8 127#8
  let main_v0 : IVec S8x2048x9344 8 := broadcastInDim S8x2048x9344 ![] bcast_S_S8x2048x9344 main_c
  let main_v1 : IVec S8x2048x9344 1 := cmpi .ne main_arg0 main_v0
  let main_c_0 : IVec S_ 8 := constantI S_ 8 255#8
  let main_v2 : IVec S8x2048x9344 8 := broadcastInDim S8x2048x9344 ![] bcast_S_S8x2048x9344 main_c_0
  let main_v3 : IVec S8x2048x9344 1 := cmpi .ne main_arg0 main_v2
  let main_v4 : IVec S8x2048x9344 1 := andi main_v1 main_v3
  let main_c_1 : IVec S_ 8 := constantI S_ 8 127#8
  let main_v5 : IVec S9344x12544 8 := broadcastInDim S9344x12544 ![] bcast_S_S9344x12544 main_c_1
  let main_v6 : IVec S9344x12544 1 := cmpi .ne main_arg2 main_v5
  let main_c_2 : IVec S_ 8 := constantI S_ 8 255#8
  let main_v7 : IVec S9344x12544 8 := broadcastInDim S9344x12544 ![] bcast_S_S9344x12544 main_c_2
  let main_v8 : IVec S9344x12544 1 := cmpi .ne main_arg2 main_v7
  let main_v9 : IVec S9344x12544 1 := andi main_v6 main_v8
  let main_v10 : FVec F S8x2048 .f32 := Host.absf main_arg1
  let main_v11 : FVec F S8x2048x1 .f32 := broadcastInDim S8x2048x1 ![0, 1] bcast_S8x2048_S8x2048x1_0_1 main_v10
  let main_v12 : FVec F S12544 .f32 := Host.absf main_arg3
  let main_v13 : FVec F S1x1x12544 .f32 := broadcastInDim S1x1x12544 ![2] bcast_S12544_S1x1x12544_2 main_v12
  let main_v14 : FVec F S8x2048x12544 .f32 := broadcastInDim S8x2048x12544 ![0, 1, 2] bcast_S8x2048x1_S8x2048x12544_0_1_2 main_v11
  let main_v15 : FVec F S8x2048x12544 .f32 := broadcastInDim S8x2048x12544 ![0, 1, 2] bcast_S1x1x12544_S8x2048x12544_0_1_2 main_v13
  let main_v16 : FVec F S8x2048x12544 .f32 := mulf main_v14 main_v15
  let main_cst : FVec F S_ .f32 := constant S_ .f32 0x51800000#32
  let main_v17 : FVec F S8x2048x12544 .f32 := broadcastInDim S8x2048x12544 ![] bcast_S_S8x2048x12544 main_cst
  let main_v18 : IVec S8x2048x12544 1 := cmpf .ole main_v16 main_v17
  (main_v4, main_v9, main_v18)
-- ==== Kernel.lean ====
abbrev S8x2048x9344 : Shape := ⟨3, ![8, 2048, 9344]⟩
abbrev S8x2048 : Shape := ⟨2, ![8, 2048]⟩
abbrev S9344x12544 : Shape := ⟨2, ![9344, 12544]⟩
abbrev S12544 : Shape := ⟨1, ![12544]⟩
abbrev S16384x9344 : Shape := ⟨2, ![16384, 9344]⟩
abbrev S16384x1 : Shape := ⟨2, ![16384, 1]⟩
abbrev S1x12544 : Shape := ⟨2, ![1, 12544]⟩
abbrev S16384x12544 : Shape := ⟨2, ![16384, 12544]⟩
abbrev S16384x98 : Shape := ⟨2, ![16384, 98]⟩
abbrev S512x9344 : Shape := ⟨2, ![512, 9344]⟩
abbrev S512x1 : Shape := ⟨2, ![512, 1]⟩
abbrev S9344x1792 : Shape := ⟨2, ![9344, 1792]⟩
abbrev S1x1792 : Shape := ⟨2, ![1, 1792]⟩
abbrev S512x1792 : Shape := ⟨2, ![512, 1792]⟩
abbrev S512x98 : Shape := ⟨2, ![512, 98]⟩
abbrev S512x128 : Shape := ⟨2, ![512, 128]⟩
abbrev S9344x256 : Shape := ⟨2, ![9344, 256]⟩
abbrev S512x256 : Shape := ⟨2, ![512, 256]⟩
abbrev S1x256 : Shape := ⟨2, ![1, 256]⟩
abbrev S512 : Shape := ⟨1, ![512]⟩

abbrev nBuf : Space → Nat
  | .hbm => 11
  | .vmem => 12
  | .smem => 0
  | _ => 0

abbrev bufTy : (tb : Table) → Fin (tcTables nBuf tb) → BufTy
  | .hbm, ⟨0, _⟩ => ⟨S8x2048x9344, .i8⟩
  | .hbm, ⟨1, _⟩ => ⟨S8x2048, .f32⟩
  | .hbm, ⟨2, _⟩ => ⟨S9344x12544, .i8⟩
  | .hbm, ⟨3, _⟩ => ⟨S12544, .f32⟩
  | .hbm, ⟨4, _⟩ => ⟨S8x2048x9344, .fp8e4m3⟩
  | .hbm, ⟨5, _⟩ => ⟨S9344x12544, .fp8e4m3⟩
  | .hbm, ⟨6, _⟩ => ⟨S16384x9344, .fp8e4m3⟩
  | .hbm, ⟨7, _⟩ => ⟨S16384x1, .f32⟩
  | .hbm, ⟨8, _⟩ => ⟨S1x12544, .f32⟩
  | .hbm, ⟨9, _⟩ => ⟨S16384x12544, .fp8e4m3⟩
  | .hbm, ⟨10, _⟩ => ⟨S16384x98, .f32⟩
  | .local _ .vmem, ⟨0, _⟩ => ⟨S512x9344, .fp8e4m3⟩
  | .local _ .vmem, ⟨1, _⟩ => ⟨S512x9344, .fp8e4m3⟩
  | .local _ .vmem, ⟨2, _⟩ => ⟨S512x1, .f32⟩
  | .local _ .vmem, ⟨3, _⟩ => ⟨S512x1, .f32⟩
  | .local _ .vmem, ⟨4, _⟩ => ⟨S9344x1792, .fp8e4m3⟩
  | .local _ .vmem, ⟨5, _⟩ => ⟨S9344x1792, .fp8e4m3⟩
  | .local _ .vmem, ⟨6, _⟩ => ⟨S1x1792, .f32⟩
  | .local _ .vmem, ⟨7, _⟩ => ⟨S1x1792, .f32⟩
  | .local _ .vmem, ⟨8, _⟩ => ⟨S512x1792, .fp8e4m3⟩
  | .local _ .vmem, ⟨9, _⟩ => ⟨S512x1792, .fp8e4m3⟩
  | .local _ .vmem, ⟨10, _⟩ => ⟨S512x98, .f32⟩
  | .local _ .vmem, ⟨11, _⟩ => ⟨S512x98, .f32⟩
  | _, _ => ⟨S8x2048x9344, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x9344 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S9344x1792 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1792 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x98 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S8x2048x9344 : Shape := ⟨3, ![8, 2048, 9344]⟩
abbrev S8x2048 : Shape := ⟨2, ![8, 2048]⟩
abbrev S9344x12544 : Shape := ⟨2, ![9344, 12544]⟩
abbrev S12544 : Shape := ⟨1, ![12544]⟩
abbrev S16384x9344 : Shape := ⟨2, ![16384, 9344]⟩
abbrev S16384x1 : Shape := ⟨2, ![16384, 1]⟩
abbrev S1x12544 : Shape := ⟨2, ![1, 12544]⟩
abbrev S16384x12544 : Shape := ⟨2, ![16384, 12544]⟩
abbrev S16384x98 : Shape := ⟨2, ![16384, 98]⟩
abbrev S16384x98x128 : Shape := ⟨3, ![16384, 98, 128]⟩
abbrev S16384x98x1 : Shape := ⟨3, ![16384, 98, 1]⟩

abbrev nBuf : Space → Nat
  | .hbm => 11
  | .vmem => 6
  | .smem => 0
  | _ => 0

abbrev bufTy : (tb : Table) → Fin (tcTables nBuf tb) → BufTy
  | .hbm, ⟨0, _⟩ => ⟨S8x2048x9344, .i8⟩
  | .hbm, ⟨1, _⟩ => ⟨S8x2048, .f32⟩
  | .hbm, ⟨2, _⟩ => ⟨S9344x12544, .i8⟩
  | .hbm, ⟨3, _⟩ => ⟨S12544, .f32⟩
  | .hbm, ⟨4, _⟩ => ⟨S8x2048x9344, .fp8e4m3⟩
  | .hbm, ⟨5, _⟩ => ⟨S9344x12544, .fp8e4m3⟩
  | .hbm, ⟨6, _⟩ => ⟨S16384x9344, .fp8e4m3⟩
  | .hbm, ⟨7, _⟩ => ⟨S16384x1, .f32⟩
  | .hbm, ⟨8, _⟩ => ⟨S1x12544, .f32⟩
  | .hbm, ⟨9, _⟩ => ⟨S16384x12544, .fp8e4m3⟩
  | .hbm, ⟨10, _⟩ => ⟨S16384x98, .f32⟩
  | .local _ .vmem, ⟨0, _⟩ => ⟨S16384x9344, .fp8e4m3⟩
  | .local _ .vmem, ⟨1, _⟩ => ⟨S16384x1, .f32⟩
  | .local _ .vmem, ⟨2, _⟩ => ⟨S9344x12544, .fp8e4m3⟩
  | .local _ .vmem, ⟨3, _⟩ => ⟨S1x12544, .f32⟩
  | .local _ .vmem, ⟨4, _⟩ => ⟨S16384x12544, .fp8e4m3⟩
  | .local _ .vmem, ⟨5, _⟩ => ⟨S16384x98, .f32⟩
  | _, _ => ⟨S8x2048x9344, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S16384x9344 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9344x12544 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x12544 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x12544 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x98 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Tile.lean ====
/-
  Hand-written, untrusted. WHAT ONE GRID POINT COMPUTES, as functions of the four blocks the point reads. A point holds
  512 rows of `x`, their scales, 1792 columns of `w` and their scales; it works in fourteen groups of 128 columns, two
  groups to each slab of 256 columns the product is formed over. `group n` is group `n`'s activations, `scaleOf` a group's
  per-row power-of-two scale, `codesOf` its eight-bit codes; `codesTile` and `scalesTile` are what the point leaves in its two
  output blocks. Everything is stated for any reading `F` of the floats.
-/
module

public import proofs.«01_k».proof.Proof.Gen.KernelIdeal.Skeleton
public import Idealize.ShloMosaic.Lib.Pipeline.FrameBody
public import Idealize.ShloMosaic.Lib.Pipeline.Value
public import Idealize.ShloMosaic.Lib.ValueIdxCore

@[expose] public section

noncomputable section

namespace Cert.KernelIdeal.Tile

open Cert.KernelIdeal Cert.KernelIdeal.Gen Idealize.ShloMosaic Idealize.SL.Sem
open Idealize.ShloMosaic.ValueIdx (ix2)

variable {F : FTy → Type} [FloatOps F]

theorem zero2 : (![0, 0] : Fin 2 → ℕ) = fun _ => 0 := by
  funext a; match a with | ⟨0, _⟩ => rfl | ⟨1, _⟩ => rfl

/-- Slab `s` of the weights: columns `256 s … 256 s + 255`. -/
def slabW (x2 : Vec F S9344x1792 .fp8e4m3) (s : ℕ) (hs : s < 7) : Vec F S9344x256 .fp8e4m3 :=
  View.ld x2 (Rect.unit (s := S9344x1792) ![0, 256 * s] S9344x256.size (Fin.forall_fin_two.mpr ⟨Nat.le_refl _, by
    show 256 * s + 256 ≤ 1792; omega⟩))

/-- Slab `s` of the weights' scales. -/
def slabS (x3 : Vec F S1x1792 .f32) (s : ℕ) (hs : s < 7) : Vec F S1x256 .f32 :=
  View.ld x3 (Rect.unit (s := S1x1792) ![0, 256 * s] S1x256.size (Fin.forall_fin_two.mpr ⟨Nat.le_refl _, by
    show 256 * s + 256 ≤ 1792; omega⟩))

/-- A slab's activations: the product, times both scales, cut off below at zero, squared. -/
def act (x0 : Vec F S512x9344 .fp8e4m3) (x1 : Vec F S512x1 .f32) (w : Vec F S9344x256 .fp8e4m3) (ws : Vec F S1x256 .f32) : FVec F S512x256 .f32 :=
  k0_pay4 (View.ld x1 (Rect.unit (s := S512x1) ![0, 0] S512x1.size inb_S512x1_S512x1_0_0)) (View.ld x0 (Rect.unit (s := S512x9344) ![0, 0] S512x9344.size inb_S512x9344_S512x9344_0_0)) w ws

/-- Half `h` of a slab's activations: 128 columns. -/
def half (y : FVec F S512x256 .f32) (h : ℕ) (hh : h < 2) : FVec F S512x128 .f32 :=
  extractStridedSlice S512x128 ![0, 128 * h] y ⟨rfl, Fin.forall_fin_two.mpr ⟨Nat.le_refl _, by show 128 * h + 128 ≤ 256; omega⟩⟩

/-- Group `n`'s activations: half `n % 2` of slab `n / 2`. -/
def group (x0 : Vec F S512x9344 .fp8e4m3) (x1 : Vec F S512x1 .f32) (x2 : Vec F S9344x1792 .fp8e4m3) (x3 : Vec F S1x1792 .f32)
    (n : ℕ) (hn : n < 14) : FVec F S512x128 .f32 :=
  half (act x0 x1 (slabW x2 (n / 2) (by omega)) (slabS x3 (n / 2) (by omega))) (n % 2) (by omega)

/-- A group's row maximum over 448, as the kernel rounds it. -/
def topOf (v : FVec F S512x128 .f32) : FVec F S512x1 .f32 :=
  mulf (shapeCast S512x1 (multiReduction .maximumf [1] S512 v 0xFF800000#32 reduces_S512x128_S512 (.inl rfl) rfl) shapeCasts_S512_S512x1)
    (broadcast S512x1 (Scalar.ofBits .f32 0x3B124925#32))

/-- One step of the search for a value's exponent field: bit `b` is put in unless the value is below the power of two whose
    field would be the one found so far with bit `b` in. -/
def step (a : FVec F S512x1 .f32) (f : IVec S512x1 32) (b : BitVec 32) : IVec S512x1 32 :=
  select (cmpf .olt a (bitcastToFloat .f32 (shli (ori f (broadcast S512x1 b)) (broadcast S512x1 23#32)))) f (ori f (broadcast S512x1 b))

/-- The whole search, from the top bit to the bottom one. -/
def search (a : FVec F S512x1 .f32) : IVec S512x1 32 :=
  step a (step a (step a (step a (step a (step a (step a (step a (broadcast S512x1 0#32) 128#32) 64#32) 32#32) 16#32) 8#32) 4#32) 2#32) 1#32

/-- A group's exponent field per row: the searched field, a zero field read as 126 (the field of one half). -/
def fieldOf (v : FVec F S512x128 .f32) : IVec S512x1 32 :=
  select (cmpi .eq (search (topOf v)) (broadcast S512x1 0#32)) (broadcast S512x1 126#32) (search (topOf v))

/-- A group's scale per row: the power of two whose field is one above. -/
def scaleOf (v : FVec F S512x128 .f32) : FVec F S512x1 .f32 :=
  bitcastToFloat .f32 (shli (addi (fieldOf v) (broadcast S512x1 1#32)) (broadcast S512x1 23#32))

/-- Its inverse. -/
def invOf (v : FVec F S512x128 .f32) : FVec F S512x1 .f32 :=
  bitcastToFloat .f32 (shli (subi (broadcast S512x1 253#32) (fieldOf v)) (broadcast S512x1 23#32))

/-- A group's codes: divided by the scale, clipped to ±448, rounded to eight bits. -/
def codesOf (v : FVec F S512x128 .f32) : FVec F S512x128 .fp8e4m3 :=
  truncf .fp8e4m3 (minimumf (broadcast S512x128 (Scalar.ofBits .f32 0x43E00000#32))
    (maximumf (broadcast S512x128 (Scalar.ofBits .f32 0xC3E00000#32))
      (mulf v (broadcastTo S512x128 (invOf v) broadcasts_S512x1_S512x128)))) bitsLt_fp8e4m3_f32

/-- Putting a group's scales into their lane: lane `g` gets `s`, the others keep `old`. -/
def putLane (g : BitVec 32) (s : FVec F S512x1 .f32) (old : FVec F S512x98 .f32) : FVec F S512x98 .f32 :=
  select (cmpi .eq (k0_pay2 : IVec S512x98 32) (broadcast S512x98 g)) (broadcastTo S512x98 (shapeCast S512x1 s shapeCasts_S512x1_S512x1) broadcasts_S512x1_S512x98) old

/-- The lane of half `h` of slab `s` at column tile `j`, in 32-bit words as the kernel counts it. -/
def lane (j s h : BitVec 32) : BitVec 32 :=
  Scalar.addi (Scalar.muli (Scalar.addi (Scalar.muli j 7#32) s) 2#32) h

/-- Lanes of the groups below `n` put in, group by group. -/
def lanesBelow (j : BitVec 32) (V : (n : ℕ) → n < 14 → FVec F S512x128 .f32) (old : FVec F S512x98 .f32) : (n : ℕ) → n ≤ 14 → FVec F S512x98 .f32
  | 0, _ => old
  | n + 1, h => putLane (lane j (BitVec.ofNat 32 (n / 2)) (BitVec.ofNat 32 (n % 2))) (scaleOf (V n (by omega))) (lanesBelow j V old n (by omega))

/-- What a grid point leaves in its block of codes. -/
def codesTile (x0 : Vec F S512x9344 .fp8e4m3) (x1 : Vec F S512x1 .f32) (x2 : Vec F S9344x1792 .fp8e4m3) (x3 : Vec F S1x1792 .f32) :
    Vec F S512x1792 .fp8e4m3 := fun y =>
  codesOf (group x0 x1 x2 x3 ((y 1).val / 128) (by have := (y 1).isLt; change (y 1).val < 1792 at this; omega))
    (ix2 (n0 := 512) (n1 := 128) (y 0) ⟨(y 1).val % 128, Nat.mod_lt _ (by decide)⟩)

/-- What a grid point at column tile `j` leaves in its block of scales, having found `old` there. -/
def scalesTile (j : BitVec 32) (x0 : Vec F S512x9344 .fp8e4m3) (x1 : Vec F S512x1 .f32) (x2 : Vec F S9344x1792 .fp8e4m3) (x3 : Vec F S1x1792 .f32)
    (old : Vec F S512x98 .f32) : Vec F S512x98 .f32 :=
  lanesBelow j (group x0 x1 x2 x3) (k0_pay3 (View.ld old (Rect.unit (s := S512x98) ![0, 0] S512x98.size inb_S512x98_S512x98_0_0))) 14 le_rfl

/-- Piece `n` of the codes, at a local index, is the tile there. -/
theorem codesTile_piece (x0 : Vec F S512x9344 .fp8e4m3) (x1 : Vec F S512x1 .f32) (x2 : Vec F S9344x1792 .fp8e4m3) (x3 : Vec F S1x1792 .f32)
    (n : ℕ) (hn : n < 14) (x : S512x128.Idx) (y : S512x1792.Idx) (h0 : (y 0).val = (x 0).val) (h1 : (y 1).val = 128 * n + (x 1).val) :
    codesOf (group x0 x1 x2 x3 n hn) x = codesTile x0 x1 x2 x3 y := by
  have hx : (x 1).val < 128 := (x 1).isLt
  have hd : (y 1).val / 128 = n := by omega
  have hm : (y 1).val % 128 = (x 1).val := by omega
  unfold codesTile
  subst hd
  congr 1
  funext a
  match a with
  | ⟨0, _⟩ => exact Fin.ext h0.symm
  | ⟨1, _⟩ => exact Fin.ext hm.symm

/-- The codes' stores, latest first, those of the groups below `n`: group `n` at columns `128 n … 128 n + 127`. -/
def pieces (V : (n : ℕ) → n < 14 → FVec F S512x128 .fp8e4m3) : (n : ℕ) → n ≤ 14 → List (View.Piece (Elt F) S512x1792 .fp8e4m3)
  | 0, _ => []
  | n + 1, h => ⟨Rect.unit (s := S512x1792) ![0, 128 * n] S512x128.size
      (Fin.forall_fin_two.mpr ⟨Nat.le_refl _, by show 128 * n + 128 ≤ 1792; omega⟩), V n h⟩ :: pieces V n (by omega)

/-- Each piece agrees with the tile. -/
theorem pieces_agree (x0 : Vec F S512x9344 .fp8e4m3) (x1 : Vec F S512x1 .f32) (x2 : Vec F S9344x1792 .fp8e4m3) (x3 : Vec F S1x1792 .f32) :
    ∀ (n : ℕ) (hn : n ≤ 14), ∀ p ∈ pieces (fun k h => codesOf (group x0 x1 x2 x3 k h)) n hn, ∀ x : p.1.shape.Idx,
      p.2 x = codesTile x0 x1 x2 x3 (p.1.emb x)
  | 0, _, p, hp, _ => by simp [pieces] at hp
  | n + 1, h, p, hp, x => by
    rcases List.mem_cons.mp hp with rfl | hp
    · refine codesTile_piece x0 x1 x2 x3 n h x _ ?_ ?_
      · show 0 + 1 * (x 0).val = (x 0).val; omega
      · show 128 * n + 1 * (x 1).val = 128 * n + (x 1).val; omega
    · exact pieces_agree x0 x1 x2 x3 n (by omega) p hp x

/-- The pieces below `n` cover the columns below `128 n`. -/
theorem pieces_cover (V : (n : ℕ) → n < 14 → FVec F S512x128 .fp8e4m3) (y : S512x1792.Idx) :
    ∀ (n : ℕ) (hn : n ≤ 14), (y 1).val < 128 * n → ∃ p ∈ pieces V n hn, y ∈ p.1.set
  | 0, _, h => by omega
  | n + 1, hn, h => by
    by_cases hy : (y 1).val < 128 * n
    · obtain ⟨p, hp, hm⟩ := pieces_cover V y n (by omega) hy
      exact ⟨p, List.mem_cons_of_mem _ hp, hm⟩
    · refine ⟨_, List.mem_cons_self, ?_⟩
      rw [Rect.mem_set_unit]
      have h0 : (y 0).val < 512 := (y 0).isLt
      refine Fin.forall_fin_two.mpr ⟨⟨Nat.zero_le _, ?_⟩, ?_, ?_⟩
      · show (y 0).val < 0 + 512; omega
      · show 128 * n ≤ (y 1).val; omega
      · show (y 1).val < 128 * n + 128; omega

/-- The fourteen stores leave the tile. -/
theorem read_pieces {sp : Space} {κ : Kind} (v : View sig κ sp S512x1792 .fp8e4m3) (f : v.ty.Contents (Elt F))
    (x0 : Vec F S512x9344 .fp8e4m3) (x1 : Vec F S512x1 .f32) (x2 : Vec F S9344x1792 .fp8e4m3) (x3 : Vec F S1x1792 .f32) :
    v.read (Elt F) (v.writes (Elt F) f (pieces (fun k h => codesOf (group x0 x1 x2 x3 k h)) 14 le_rfl)) = codesTile x0 x1 x2 x3 :=
  have hc : ∀ y : S512x1792.Idx, (y 1).val < 128 * 14 := fun y => (y 1).isLt
  funext fun y => (View.read_writes_apply_eq_canon v f y _ (pieces_cover _ y 14 le_rfl (hc y))).trans
    (View.canon_apply_of_pieces _ _ (pieces_agree x0 x1 x2 x3 14 le_rfl) y (pieces_cover _ y 14 le_rfl (hc y)))

/-- The same, of the fourteen stores as the run lists them, each payload known to be its group's codes. -/
theorem read_stores {sp : Space} {κ : Kind} (v : View sig κ sp S512x1792 .fp8e4m3) (f : v.ty.Contents (Elt F))
    (x0 : Vec F S512x9344 .fp8e4m3) (x1 : Vec F S512x1 .f32) (x2 : Vec F S9344x1792 .fp8e4m3) (x3 : Vec F S1x1792 .f32)
    (w0 w1 w2 w3 w4 w5 w6 w7 w8 w9 w10 w11 w12 w13 : FVec F S512x128 .fp8e4m3)
    (h0 : w0 = codesOf (group x0 x1 x2 x3 0 (by decide))) (h1 : w1 = codesOf (group x0 x1 x2 x3 1 (by decide))) (h2 : w2 = codesOf (group x0 x1 x2 x3 2 (by decide))) (h3 : w3 = codesOf (group x0 x1 x2 x3 3 (by decide))) (h4 : w4 = codesOf (group x0 x1 x2 x3 4 (by decide))) (h5 : w5 = codesOf (group x0 x1 x2 x3 5 (by decide))) (h6 : w6 = codesOf (group x0 x1 x2 x3 6 (by decide))) (h7 : w7 = codesOf (group x0 x1 x2 x3 7 (by decide))) (h8 : w8 = codesOf (group x0 x1 x2 x3 8 (by decide))) (h9 : w9 = codesOf (group x0 x1 x2 x3 9 (by decide))) (h10 : w10 = codesOf (group x0 x1 x2 x3 10 (by decide))) (h11 : w11 = codesOf (group x0 x1 x2 x3 11 (by decide))) (h12 : w12 = codesOf (group x0 x1 x2 x3 12 (by decide))) (h13 : w13 = codesOf (group x0 x1 x2 x3 13 (by decide))) :
    v.read (Elt F) (v.writes (Elt F) f [⟨Rect.unit (s := S512x1792) ![0, 1664] S512x128.size inb_S512x1792_S512x128_0_1664, w13⟩,
      ⟨Rect.unit (s := S512x1792) ![0, 1536] S512x128.size inb_S512x1792_S512x128_0_1536, w12⟩,
      ⟨Rect.unit (s := S512x1792) ![0, 1408] S512x128.size inb_S512x1792_S512x128_0_1408, w11⟩,
      ⟨Rect.unit (s := S512x1792) ![0, 1280] S512x128.size inb_S512x1792_S512x128_0_1280, w10⟩,
      ⟨Rect.unit (s := S512x1792) ![0, 1152] S512x128.size inb_S512x1792_S512x128_0_1152, w9⟩,
      ⟨Rect.unit (s := S512x1792) ![0, 1024] S512x128.size inb_S512x1792_S512x128_0_1024, w8⟩,
      ⟨Rect.unit (s := S512x1792) ![0, 896] S512x128.size inb_S512x1792_S512x128_0_896, w7⟩,
      ⟨Rect.unit (s := S512x1792) ![0, 768] S512x128.size inb_S512x1792_S512x128_0_768, w6⟩,
      ⟨Rect.unit (s := S512x1792) ![0, 640] S512x128.size inb_S512x1792_S512x128_0_640, w5⟩,
      ⟨Rect.unit (s := S512x1792) ![0, 512] S512x128.size inb_S512x1792_S512x128_0_512, w4⟩,
      ⟨Rect.unit (s := S512x1792) ![0, 384] S512x128.size inb_S512x1792_S512x128_0_384, w3⟩,
      ⟨Rect.unit (s := S512x1792) ![0, 256] S512x128.size inb_S512x1792_S512x128_0_256, w2⟩,
      ⟨Rect.unit (s := S512x1792) ![0, 128] S512x128.size inb_S512x1792_S512x128_0_128, w1⟩,
      ⟨Rect.unit (s := S512x1792) ![0, 0] S512x128.size inb_S512x1792_S512x128_0_0, w0⟩]) = codesTile x0 x1 x2 x3 := by
  subst h0 h1 h2 h3 h4 h5 h6 h7 h8 h9 h10 h11 h12 h13
  exact read_pieces v f x0 x1 x2 x3

/-- One store of a whole block leaves its payload. -/
theorem read_store {S : Shape} {e : EltTy} {sp : Space} {κ : Kind} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ fun y => ⟨_, List.mem_singleton_self _, View.mem_set_unit_zero h inb y⟩]
  exact View.canon_unit_zero h inb w

end Cert.KernelIdeal.Tile

end
-- ==== Proof.Run.lean ====
/-
  Hand-written, untrusted. THE BODY'S RUN at one grid point, its result named: run on whole staging buffers the body leaves
  `Tile.codesTile` of the blocks it read in its block of codes and `Tile.scalesTile` of them and of what it found there in its block
  of scales.
-/
module

public import proofs.«01_k».proof.Proof.Gen.KernelIdeal.Frame
public import proofs.«01_k».proof.Proof.Gen.KernelIdeal.Skeleton
public import proofs.«01_k».proof.Proof.Tile

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: the inputs' buffers as they were, the codes' buffer at the tile, the scales' at what the lanes' update makes of its contents. -/
theorem kernelRun0_A (c : Dev nD) (i : grid0.Coords) (arg2 : Memref sig .tc .vmem S512x9344 .fp8e4m3) (harg2 : arg2.IsWhole) (arg3 : Memref sig .tc .vmem S512x1 .f32) (harg3 : arg3.IsWhole) (arg4 : Memref sig .tc .vmem S9344x1792 .fp8e4m3) (harg4 : arg4.IsWhole) (arg5 : Memref sig .tc .vmem S1x1792 .f32) (harg5 : arg5.IsWhole) (arg6 : Memref sig .tc .vmem S512x1792 .fp8e4m3) (harg6 : arg6.IsWhole) (arg7 : Memref sig .tc .vmem S512x98 .f32) (harg7 : arg7.IsWhole)
    (x0 : Vec F S512x9344 .fp8e4m3) (x1 : Vec F S512x1 .f32) (x2 : Vec F S9344x1792 .fp8e4m3) (x3 : Vec F S1x1792 .f32) (d5 : Vec F S512x98 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare d5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (Tile.codesTile x0 x1 x2 x3) ∗ owns (c : Thread nD τ) arg7 fullShare (Tile.scalesTile (BitVec.ofNat 32 (i 1).val) x0 x1 x2 x3 d5)) -∗ K ⟨⟩))
          ⊢ wp frame (wpE (defs₀ (F := F)) Variants.none c none) E (cc0__body i arg2 harg2 arg3 harg3 arg4 harg4 arg5 harg5 arg6 harg6 arg7 harg7) K := by
    intro E K
    simp only [cc0__body_eq_skeleton]; unfold cc0__body_skel
    simp only [k0_part33_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    subst hf0 hf1 hf2 hf3 hf5
    sl_exec
    sl_step
    iapply Hk
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]
    · iexists _; isplitr
      rotate_left
      · iexact H4
      · ipureintro
        refine Tile.read_stores arg6.view f4 _ _ _ _ _ _ _ _ _ _ _ _ _ _ _ _ _ _ ?_ ?_ ?_ ?_ ?_ ?_ ?_ ?_ ?_ ?_ ?_ ?_ ?_ ?_
        all_goals exact rfl
    · iexists _; isplitr
      rotate_left
      · iexact H5
      · ipureintro
        refine (Tile.read_store arg7.view f5 Tile.zero2 inb_S512x98_S512x98_0_0 _).trans ?_
        exact rfl

end Cert.KernelIdeal.Gen

end
-- ==== Proof.Whole.lean ====
/-
  Hand-written, untrusted. THE WHOLE KERNEL'S RUN, for any reading of the floats. The block of scales is read at every point
  before it is stored, at the first point of a row of tiles before anything was put there: so what it holds there is not named but
  RELATED to what was found (`Tile.scalesTile`). Every other window's contents are named.
-/
module

public import proofs.«01_k».proof.Proof.Run
public import Idealize.ShloMosaic.Lib.Claim
public import Idealize.ShloMosaic.Lib.Pipeline.ArrRel

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The codes point `t` leaves. -/
def codesAt (c : Dev nD) (t : Fin cfg0.N) : Vec F S512x1792 .fp8e4m3 :=
  Tile.codesTile (iblk m c 0 t) (iblk m c 1 t) (iblk m c 2 t) (iblk m c 3 t)

/-- The scales point `t` leaves, having found `old`. -/
def scalesAt (c : Dev nD) (t : Fin cfg0.N) (old : Vec F S512x98 .f32) : Vec F S512x98 .f32 :=
  Tile.scalesTile (BitVec.ofNat 32 (grid0.coords t 1).val) (iblk m c 0 t) (iblk m c 1 t) (iblk m c 2 t) (iblk m c 3 t) old

/-- The data of the windows whose contents are named (the scales' entry is not read). -/
def named (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => codesAt m c t
    | ⟨5, h⟩ => Pipeline.Dat.unnamed (cfg := cfg0) ⟨5, h⟩ t
  Φ _ := Pipeline.ΦA spec0 c
  q _ := fullShare
  owed _ := 0

/-- The scales' window is related, the others are not overridden. -/
def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => none
  | ⟨4, _⟩ => none
  | ⟨5, _⟩ => some fun t Y X => X = scalesAt m c t Y

/-- The run's data. -/
def data (c : Dev nD) : RDat τ (Elt F) Unit ℕ (UR sig nD τ) ℕ cfg0 c := (named m c).toR.override (ovr m c)

theorem A_eq (c : Dev nD) (w : Fin cfg0.W) : (named m c).A w = V m c (Pipeline.arrRef spec0 w) := by
  dsimp only [named]

theorem after_0 (c : Dev nD) (t : Fin cfg0.N) : (named m c).after 0 t = iblk m c 0 t := by dsimp only [named]
theorem after_1 (c : Dev nD) (t : Fin cfg0.N) : (named m c).after 1 t = iblk m c 1 t := by dsimp only [named]
theorem after_2 (c : Dev nD) (t : Fin cfg0.N) : (named m c).after 2 t = iblk m c 2 t := by dsimp only [named]
theorem after_3 (c : Dev nD) (t : Fin cfg0.N) : (named m c).after 3 t = iblk m c 3 t := by dsimp only [named]
theorem after_4 (c : Dev nD) (t : Fin cfg0.N) : (named m c).after 4 t = codesAt m c t := by dsimp only [named]

/-- Each input's current staging buffer holds its block at every point. -/
theorem finds_0 (c : Dev nD) (t : Fin cfg0.N) (X) (h : (data m c).Finds 0 t X) : X = iblk m c 0 t := by
  obtain ⟨d, rfl⟩ := (named m c).toR_finds 0 t X (((named m c).toR.override_finds rfl t X).mp h)
  exact before0_0_of m (named m c) (A_eq m c 0) (after_0 m c) t d
theorem finds_1 (c : Dev nD) (t : Fin cfg0.N) (X) (h : (data m c).Finds 1 t X) : X = iblk m c 1 t := by
  obtain ⟨d, rfl⟩ := (named m c).toR_finds 1 t X (((named m c).toR.override_finds rfl t X).mp h)
  exact before0_1_of m (named m c) (A_eq m c 1) (after_1 m c) t d
theorem finds_2 (c : Dev nD) (t : Fin cfg0.N) (X) (h : (data m c).Finds 2 t X) : X = iblk m c 2 t := by
  obtain ⟨d, rfl⟩ := (named m c).toR_finds 2 t X (((named m c).toR.override_finds rfl t X).mp h)
  exact before0_2_of m (named m c) (A_eq m c 2) (after_2 m c) t d
theorem finds_3 (c : Dev nD) (t : Fin cfg0.N) (X) (h : (data m c).Finds 3 t X) : X = iblk m c 3 t := by
  obtain ⟨d, rfl⟩ := (named m c).toR_finds 3 t X (((named m c).toR.override_finds rfl t X).mp h)
  exact before0_3_of m (named m c) (A_eq m c 3) (after_3 m c) t d

/-- What the relation says of each window: a named one holds what is named, -/
theorem rel_0 (c : Dev nD) (t : Fin cfg0.N) (Y X) : (data m c).after 0 t Y X ↔ X = iblk m c 0 t := Iff.rfl
theorem rel_1 (c : Dev nD) (t : Fin cfg0.N) (Y X) : (data m c).after 1 t Y X ↔ X = iblk m c 1 t := Iff.rfl
theorem rel_2 (c : Dev nD) (t : Fin cfg0.N) (Y X) : (data m c).after 2 t Y X ↔ X = iblk m c 2 t := Iff.rfl
theorem rel_3 (c : Dev nD) (t : Fin cfg0.N) (Y X) : (data m c).after 3 t Y X ↔ X = iblk m c 3 t := Iff.rfl
theorem rel_4 (c : Dev nD) (t : Fin cfg0.N) (Y X) : (data m c).after 4 t Y X ↔ X = codesAt m c t := Iff.rfl
/-- the scales what the point makes of what it found. -/
theorem rel_5 (c : Dev nD) (t : Fin cfg0.N) (Y X) : (data m c).after 5 t Y X ↔ X = scalesAt m c t Y := Iff.rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body at any point, from what it may find to what the relation allows it to leave. -/
theorem body_obligation (c : Dev nD) : (data m c).BodyObligation (defs₀ (F := F)) Variants.none () Set.univ := fun t Y hY => by
  rw [bigSep_W0, bigSep_W0, defs₀_row]
  have h0 := finds_0 m c t _ (hY 0)
  have h1 := finds_1 m c t _ (hY 1)
  have h2 := finds_2 m c t _ (hY 2)
  have h3 := finds_3 m c t _ (hY 3)
  rw [h0, h1, h2, h3, show (data m c).Φ t.succ = (data m c).Φ t.castSucc from rfl,
    show (data m c).owesAt () t.succ = (data m c).owesAt () t.castSucc from rfl]
  iintro ⟨HΦ, Ho, H0, H1, H2, H3, H4, H5⟩
  iapply ((kernelRun0_A c (grid0.coords t) _ _ _ _ _ _ _ _ _ _ _ _ (iblk m c 0 t) (iblk m c 1 t) (iblk m c 2 t) (iblk m c 3 t) (Y 5)) Set.univ _)
  isplitl [H0]; · iexact H0
  isplitl [H1]; · iexact H1
  isplitl [H2]; · iexact H2
  isplitl [H3]; · iexact H3
  isplitl [H4]; · iexists _; iexact H4
  isplitl [H5]; · iexact H5
  iintro ⟨H0, H1, H2, H3, H4, H5⟩
  isplitl [HΦ]; · iexact HΦ
  isplitl [Ho]; · iexact Ho
  isplitl [H0]
  · iexists (iblk m c 0 t); isplitr; · ipureintro; exact (rel_0 m c t _ _).mpr rfl
    iexact H0
  isplitl [H1]
  · iexists (iblk m c 1 t); isplitr; · ipureintro; exact (rel_1 m c t _ _).mpr rfl
    iexact H1
  isplitl [H2]
  · iexists (iblk m c 2 t); isplitr; · ipureintro; exact (rel_2 m c t _ _).mpr rfl
    iexact H2
  isplitl [H3]
  · iexists (iblk m c 3 t); isplitr; · ipureintro; exact (rel_3 m c t _ _).mpr rfl
    iexact H3
  isplitl [H4]
  · iexists (codesAt m c t); isplitr; · ipureintro; exact (rel_4 m c t _ _).mpr rfl
    iexact H4
  iexists (scalesAt m c t (Y 5)); isplitr; · ipureintro; exact (rel_5 m c t _ _).mpr rfl
  iexact H5

set_option backward.isDefEq.respectTransparency.types false in
/-- THE RUN: every weakly fair execution terminates with the arrays as the data allow and every counter at zero. -/
theorem run : θ_run defs (onTc (τ := τ) (main (F := F))) (s₀ m ρ) (fun r => RDat.FramePost (cfgs 0) (data m) (V m) r ∧ r.2.sem = fun _ => 0) :=
  RDat.θ_run_frame (Q' := _) cfgs (0 : Fin 1) launch0 defs₀ Variants.none (data m) m ρ main
    (hbody := body_obligation m) (hshare := fun c => (named m c).share_full fun _ => rfl)
    (howed := fun _ _ => rfl) (V := V m) (hmain := hmain m Variants.none) (hA := A_eq m) (hΦ := fun _ _ => rfl)
    (hQ' := fun _ h => h)

/-- The argument arrays after a run. -/
theorem args_kept {r : PUnit × MemSt nD τ sig (Elt F)} (h : RDat.FramePost (cfgs 0) (data m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨args_kept m h.1, h.2⟩) (run m ρ)

end Cert.KernelIdeal.Whole

end
-- ==== Proof.Same.lean ====
/-
  Hand-written, untrusted. THE KERNEL AND ITS IDEAL ARE ONE TEXT. No operation of the kernel is rewritten on the way to the
  ideal program, so their body tables are equal, at every reading of the floats, and what is proved of the one for all
  readings holds of the other.
-/
module

public import proofs.«01_k».proof.Defs
public import proofs.«01_k».proof.Proof.Gen.Kernel
public import proofs.«01_k».proof.Proof.Whole

@[expose] public section

noncomputable section

namespace Cert.Same

open Idealize.ShloMosaic Idealize.SL.Sem

variable {F : FTy → Type} [FloatOps F]

theorem defs₀_same : @Cert.Kernel.defs₀ F _ _ = @Cert.KernelIdeal.defs₀ F _ _ := by
  unfold Cert.Kernel.defs₀ Cert.KernelIdeal.defs₀
  refine congrArg Defs.onTc (funext fun l => funext fun x => ?_)
  match l, x with
  | 0, (t, s) => rfl

/-- The kernel's frame, from its ideal's at the same reading. -/
theorem frame : Cert.quiescent_Kernel (hKernel := Cert.Kernel.Gen.facts) := by
  intro m ρ _
  have h := Cert.KernelIdeal.Whole.frame (F := Bits) m ρ
  unfold Cert.KernelIdeal.defs at h
  rw [← defs₀_same] at h
  exact h

end Cert.Same
-- ==== Proof.Math.lean ====
/-
  Hand-written, untrusted. THE ARITHMETIC BEHIND THE SCALE. The kernel finds a positive real's binary exponent by a search
  over the eight bits of a float's exponent field, each step one comparison against a power of two written as a bit
  pattern. `field_small` and `field_large` say what the search finds; `scale_eq` and `inv_eq` say that the two patterns the kernel then forms
  are two to the exponent the reference takes from a logarithm, and two to its negative.
-/
module

public import Idealize.ShloMosaic.PureOps.Ideal

@[expose] public section

noncomputable section

namespace Cert.Maths

open Idealize.ShloMosaic

/-- The number whose exponent field is `f` and whose other bits are zero. -/
def pow (f : BitVec 32) : EReal := Ideal.ofBits .f32 (f <<< 23)

theorem fields : ∀ n : Fin 256,
    ((BitVec.ofNat 32 n.val <<< 23).extractLsb' (8 + 23) 1 == 1#1) = false ∧
    ((BitVec.ofNat 32 n.val <<< 23).extractLsb' 23 8).toNat = n.val ∧
    ((BitVec.ofNat 32 n.val <<< 23).extractLsb' 0 23).toNat = 0 := by decide +kernel

/-- A pattern with sign, exponent field and fraction read off. -/
theorem ieee_power {b : BitVec 32} {n : ℕ} (hs : (b.extractLsb' (8 + 23) 1 == 1#1) = false)
    (he : (b.extractLsb' 23 8).toNat = n) (hf : (b.extractLsb' 0 23).toNat = 0) (h1 : 1 ≤ n) (h2 : n ≤ 254) :
    Ideal.ieee 8 23 b = (((2 : ℝ) ^ ((n : ℤ) - 127) : ℝ) : EReal) := by
  have hn : ¬ n = 2 ^ 8 - 1 := by norm_num; omega
  have h0 : ¬ n = 0 := by omega
  have hr : ((1 : ℝ) * ((2 ^ 23 + 0 : ℕ) : ℝ) * (2 : ℝ) ^ ((n : ℤ) - (2 ^ (8 - 1) - 1) - ((23 : ℕ) : ℤ))) = (2 : ℝ) ^ ((n : ℤ) - 127) := by
    have h23 : (((2 ^ 23 + 0 : ℕ) : ℝ)) = (2 : ℝ) ^ (23 : ℤ) := by
      rw [Nat.add_zero, Nat.cast_pow]; exact (zpow_natCast (2 : ℝ) 23).symm
    rw [one_mul, h23, ← zpow_add₀ (by norm_num)]
    congr 1
    norm_num
  unfold Ideal.ieee
  simp only [hs, he, hf, hn, h0, if_false, Bool.false_eq_true]
  exact congrArg _ hr

theorem ieee_top {b : BitVec 32} (hs : (b.extractLsb' (8 + 23) 1 == 1#1) = false)
    (he : (b.extractLsb' 23 8).toNat = 255) (hf : (b.extractLsb' 0 23).toNat = 0) : Ideal.ieee 8 23 b = ⊤ := by
  have hn : 255 = 2 ^ 8 - 1 := by norm_num
  unfold Ideal.ieee
  simp only [hs, he, hf, if_false, Bool.false_eq_true]
  rw [if_pos hn, if_pos trivial]

theorem pow_ieee (f : BitVec 32) : pow f = Ideal.ieee 8 23 (f <<< 23) := by
  unfold pow Ideal.ofBits; rfl

theorem pow_eq (n : ℕ) (h1 : 1 ≤ n) (h2 : n ≤ 254) :
    pow (BitVec.ofNat 32 n) = (((2 : ℝ) ^ ((n : ℤ) - 127) : ℝ) : EReal) := by
  obtain ⟨hs, he, hf⟩ := fields ⟨n, by omega⟩
  exact (pow_ieee _).trans (ieee_power hs he hf h1 h2)

theorem pow_top : pow (BitVec.ofNat 32 255) = ⊤ := by
  obtain ⟨hs, he, hf⟩ := fields ⟨255, by omega⟩
  exact (pow_ieee _).trans (ieee_top hs he hf)

/-- One step of the search: keep the bit unless the number with it set is already above `a`. -/
def step (a : EReal) (f b : BitVec 32) : BitVec 32 := if a < pow (f ||| b) then f else f ||| b

/-- The search, from the top bit of the field down. -/
def field (a : EReal) : BitVec 32 :=
  step a (step a (step a (step a (step a (step a (step a (step a 0#32 128#32) 64#32) 32#32) 16#32) 8#32) 4#32) 2#32) 1#32

/-- The same step and search on the answer itself. -/
def stepN (n : ℕ) (f b : BitVec 32) : BitVec 32 := if n < (f ||| b).toNat then f else f ||| b

def fieldN (n : ℕ) : BitVec 32 :=
  stepN n (stepN n (stepN n (stepN n (stepN n (stepN n (stepN n (stepN n 0#32 128#32) 64#32) 32#32) 16#32) 8#32) 4#32) 2#32) 1#32

theorem fieldN_eq : ∀ n : Fin 256, fieldN n.val = BitVec.ofNat 32 n.val := by decide +kernel

theorem step_eq {a : EReal} {n : ℕ} (h : ∀ k : ℕ, 1 ≤ k → k ≤ 255 → (a < pow (BitVec.ofNat 32 k) ↔ n < k))
    (f b : BitVec 32) (hf : f.toNat < 256) (hb : b.toNat < 256) (hb0 : b ≠ 0#32) :
    step a f b = stepN n f b ∧ (stepN n f b).toNat < 256 := by
  have hor : (f ||| b).toNat < 256 := by
    rw [BitVec.toNat_or]; exact Nat.or_lt_two_pow (n := 8) hf hb
  have h0 : 1 ≤ (f ||| b).toNat := by
    rw [BitVec.toNat_or, Nat.one_le_iff_ne_zero]
    intro h0
    apply hb0
    apply BitVec.eq_of_toNat_eq
    have := (Nat.or_eq_zero_iff.mp h0).2
    simpa using this
  have hk := h _ h0 (by omega)
  rw [BitVec.ofNat_toNat, BitVec.setWidth_eq] at hk
  unfold step stepN
  refine ⟨by simp only [hk], ?_⟩
  split <;> assumption

/-- The search finds the field `n` when `n` separates the powers above `a` from the others. -/
theorem field_eq {a : EReal} {n : ℕ} (hn : n < 256)
    (h : ∀ k : ℕ, 1 ≤ k → k ≤ 255 → (a < pow (BitVec.ofNat 32 k) ↔ n < k)) : field a = BitVec.ofNat 32 n := by
  rw [← fieldN_eq ⟨n, hn⟩]
  unfold field fieldN
  have s1 := step_eq h 0#32 128#32 (by decide) (by decide) (by decide)
  have s2 := step_eq h _ 64#32 s1.2 (by decide) (by decide)
  have s3 := step_eq h _ 32#32 s2.2 (by decide) (by decide)
  have s4 := step_eq h _ 16#32 s3.2 (by decide) (by decide)
  have s5 := step_eq h _ 8#32 s4.2 (by decide) (by decide)
  have s6 := step_eq h _ 4#32 s5.2 (by decide) (by decide)
  have s7 := step_eq h _ 2#32 s6.2 (by decide) (by decide)
  have s8 := step_eq h _ 1#32 s7.2 (by decide) (by decide)
  simp only [s1.1, s2.1, s3.1, s4.1, s5.1, s6.1, s7.1, s8.1]

/-- The field with the zero field replaced by the one of a half. -/
def fixed (f : BitVec 32) : BitVec 32 := if f = 0#32 then 126#32 else f

/-- The kernel's scale and its inverse, from the number whose exponent is wanted. -/
def scale (a : EReal) : EReal := Ideal.ofBits .f32 ((fixed (field a) + 1#32) <<< 23)
def inv (a : EReal) : EReal := Ideal.ofBits .f32 ((253#32 - fixed (field a)) <<< 23)

/-- The reference's exponent. -/
def expo (a : EReal) : EReal :=
  if a < Ideal.ofBits .f32 0x00800000#32 then Ideal.ofBits .f32 0x00000000#32
  else Ideal.liftRound Int.floor (Ideal.div (Ideal.log a) ((Real.log 2 : ℝ) : EReal)) + Ideal.ofBits .f32 0x3F800000#32

theorem bits_zero : Ideal.ofBits .f32 0x00000000#32 = 0 := by
  simp [Ideal.ofBits, Ideal.ieee]

theorem bits_one : Ideal.ofBits .f32 0x3F800000#32 = ((1 : ℝ) : EReal) := by
  have := pow_eq 127 (by norm_num) (by norm_num)
  norm_num at this
  exact this

theorem bits_tiny : Ideal.ofBits .f32 0x00800000#32 = (((2 : ℝ) ^ (-126 : ℤ) : ℝ) : EReal) := by
  have := pow_eq 1 (by norm_num) (by norm_num)
  rw [show ((1 : ℕ) : ℤ) - 127 = -126 by norm_num] at this
  exact this

theorem exp2_int (z : ℤ) : Ideal.exp2 (((z : ℝ)) : EReal) = (((2 : ℝ) ^ z : ℝ) : EReal) := by
  rw [Ideal.exp2_coe]
  congr 1
  exact Real.rpow_intCast 2 z

/-- A real's binary exponent. -/
def blog (r : ℝ) : ℤ := ⌊Real.log r / Real.log 2⌋

theorem lt_zpow_iff {r : ℝ} (hr : 0 < r) (k : ℤ) : r < (2 : ℝ) ^ k ↔ blog r < k := by
  have hl : 0 < Real.log 2 := Real.log_pos (by norm_num)
  unfold blog
  rw [Int.floor_lt, div_lt_iff₀ hl, ← Real.log_zpow, Real.log_lt_log_iff hr (by positivity)]

/-- Below the least normal number the search finds the zero field. -/
theorem field_small {r : ℝ} (h : r < (2 : ℝ) ^ (-126 : ℤ)) : field (r : EReal) = 0#32 := by
  refine field_eq (n := 0) (by norm_num) fun k h1 h2 => ?_
  refine iff_of_true ?_ (by omega)
  rcases Nat.lt_or_ge k 255 with hk | hk
  · rw [pow_eq k h1 (by omega), EReal.coe_lt_coe_iff]
    exact lt_of_lt_of_le h (zpow_le_zpow_right₀ (by norm_num) (by omega))
  · rw [show k = 255 by omega, pow_top]; exact EReal.coe_lt_top r

/-- Elsewhere it finds the biased binary exponent. -/
theorem field_large {r : ℝ} (h : (2 : ℝ) ^ (-126 : ℤ) ≤ r) (h' : r < (2 : ℝ) ^ (126 : ℤ)) :
    ∃ n : ℕ, 1 ≤ n ∧ n ≤ 252 ∧ blog r = (n : ℤ) - 127 ∧ field (r : EReal) = BitVec.ofNat 32 n := by
  have hr : 0 < r := lt_of_lt_of_le (by positivity) h
  have lo : -126 ≤ blog r := not_lt.mp fun hc => absurd ((lt_zpow_iff hr _).mpr hc) (not_lt.mpr h)
  have hi : blog r < 126 := (lt_zpow_iff hr _).mp h'
  refine ⟨(blog r + 127).toNat, by omega, by omega, by omega, field_eq (by omega) fun k h1 h2 => ?_⟩
  rcases Nat.lt_or_ge k 255 with hk | hk
  · rw [pow_eq k h1 (by omega), EReal.coe_lt_coe_iff]
    rw [lt_zpow_iff hr]; omega
  · rw [show k = 255 by omega, pow_top]
    exact iff_of_true (EReal.coe_lt_top r) (by omega)

theorem expo_small {r : ℝ} (h : r < (2 : ℝ) ^ (-126 : ℤ)) : expo (r : EReal) = ((0 : ℤ) : ℝ) := by
  unfold expo
  rw [bits_tiny, if_pos (EReal.coe_lt_coe_iff.mpr h), bits_zero]
  norm_num

theorem expo_large {r : ℝ} (h : (2 : ℝ) ^ (-126 : ℤ) ≤ r) : expo (r : EReal) = ((blog r + 1 : ℤ) : ℝ) := by
  have hr : 0 < r := lt_of_lt_of_le (by positivity) h
  have hl : Real.log 2 ≠ 0 := by positivity
  have hl' : ((Real.log 2 : ℝ) : EReal) ≠ 0 := by exact_mod_cast hl
  unfold expo
  rw [bits_tiny, if_neg (not_lt.mpr (EReal.coe_le_coe_iff.mpr h)), bits_one, Ideal.log_coe, if_neg (not_le.mpr hr)]
  unfold Ideal.div
  rw [if_neg hl', ← EReal.coe_inv, ← EReal.coe_mul, ← div_eq_mul_inv]
  show ((⌊Real.log r / Real.log 2⌋ : ℝ) : EReal) + _ = _
  rw [← EReal.coe_add]
  unfold blog
  push_cast
  rfl

/-- The kernel's scale is two to the reference's exponent. -/
theorem scale_eq {r : ℝ} (h : r < (2 : ℝ) ^ (126 : ℤ)) : scale (r : EReal) = Ideal.exp2 (expo (r : EReal)) := by
  unfold scale
  rcases lt_or_ge r ((2 : ℝ) ^ (-126 : ℤ)) with hs | hs
  · rw [field_small hs, expo_small hs, exp2_int]
    exact pow_eq 127 (by norm_num) (by norm_num)
  · obtain ⟨n, h1, h2, hn, hf⟩ := field_large hs h
    rw [hf, expo_large hs, exp2_int, hn]
    have hne : BitVec.ofNat 32 n ≠ 0#32 := by
      intro h0
      have := congrArg BitVec.toNat h0
      simp only [BitVec.toNat_ofNat] at this
      omega
    rw [show fixed (BitVec.ofNat 32 n) = BitVec.ofNat 32 n from if_neg hne,
      show BitVec.ofNat 32 n + 1#32 = BitVec.ofNat 32 (n + 1) from (BitVec.ofNat_add ..).symm]
    refine (pow_eq (n + 1) (by omega) (by omega)).trans ?_
    congr 2
    push_cast; ring

/-- The kernel's inverse scale is two to the reference's exponent negated. -/
theorem inv_eq {r : ℝ} (h : r < (2 : ℝ) ^ (126 : ℤ)) :
    inv (r : EReal) = Ideal.exp2 (Ideal.ofBits .f32 0x00000000#32 - expo (r : EReal)) := by
  unfold inv
  rw [bits_zero, zero_sub]
  rcases lt_or_ge r ((2 : ℝ) ^ (-126 : ℤ)) with hs | hs
  · rw [field_small hs, expo_small hs, ← EReal.coe_neg, ← Int.cast_neg, exp2_int]
    exact pow_eq 127 (by norm_num) (by norm_num)
  · obtain ⟨n, h1, h2, hn, hf⟩ := field_large hs h
    rw [hf, expo_large hs, ← EReal.coe_neg, ← Int.cast_neg, exp2_int, hn]
    have hne : BitVec.ofNat 32 n ≠ 0#32 := by
      intro h0
      have := congrArg BitVec.toNat h0
      simp only [BitVec.toNat_ofNat] at this
      omega
    have hsub : 253#32 - BitVec.ofNat 32 n = BitVec.ofNat 32 (253 - n) := by
      apply BitVec.eq_of_toNat_eq
      simp only [BitVec.toNat_sub, BitVec.toNat_ofNat]
      omega
    rw [show fixed (BitVec.ofNat 32 n) = BitVec.ofNat 32 n from if_neg hne, hsub]
    refine (pow_eq (253 - n) (by omega) (by omega)).trans ?_
    congr 2
    push_cast [Nat.cast_sub (show n ≤ 253 by omega)]; ring

end Cert.Maths
-- ==== Proof.Spec.lean ====
/-
  Hand-written, untrusted. THE TWO RESULTS as functions of the four arrays both programs hand to their one call, over the
  extended reals: each activation a sum of products times two scales, cut off at zero and squared; each group of 128 columns
  a scale and 128 codes, from whatever two functions give the scale and its inverse off the group's peak.
-/
module

public import Idealize.ShloMosaic.Lib.Pointwise

@[expose] public section

noncomputable section

namespace Cert.Spec

open Idealize.ShloMosaic

/-- One activation from its dot product and its two scales. -/
def relu2 (d s t : EReal) : EReal := max (d * (s * t)) 0 * max (d * (s * t)) 0

/-- A row's maximum over 448. -/
def peak (v : Fin 128 → EReal) : EReal :=
  Finset.univ.fold max (Ideal.ofBits .f32 0xFF800000#32) v * Ideal.ofBits .f32 0x3B124925#32

/-- A code from its activation and the inverse scale. -/
def code (y i : EReal) : EReal :=
  min (Ideal.ofBits .f32 0x43E00000#32) (max (Ideal.ofBits .f32 0xC3E00000#32) (y * i))

variable (x : (⟨2, ![16384, 9344]⟩ : Shape).Idx → EReal) (s : (⟨2, ![16384, 1]⟩ : Shape).Idx → EReal)
  (w : (⟨2, ![9344, 12544]⟩ : Shape).Idx → EReal) (u : (⟨2, ![1, 12544]⟩ : Shape).Idx → EReal)

/-- The activation in row `r` and column `k`. -/
def act (r : Fin 16384) (k : Fin 12544) : EReal :=
  relu2 (∑ d : Fin 9344, x (ix2 r d) * w (ix2 d k)) (s (ix2 r 0)) (u (ix2 0 k))

/-- Element `l` of group `g` is column `128 g + l`. -/
def col (g : Fin 98) (l : Fin 128) : Fin 12544 := ⟨128 * g.val + l.val, by omega⟩

/-- The group of a column, and its place there. -/
def grp (k : Fin 12544) : Fin 98 := ⟨k.val / 128, by omega⟩
def plc (k : Fin 12544) : Fin 128 := ⟨k.val % 128, Nat.mod_lt _ (by decide)⟩

theorem col_grp_plc (k : Fin 12544) : col (grp k) (plc k) = k := Fin.ext (Nat.div_add_mod k.val 128)

/-- The peak of group `g` of row `r`. -/
def top (r : Fin 16384) (g : Fin 98) : EReal := peak fun l => act x s w u r (col g l)

variable (inv scale : EReal → EReal)

/-- The codes. -/
def codes : (⟨2, ![16384, 12544]⟩ : Shape).Idx → EReal := fun y =>
  code (act x s w u (y 0) (y 1)) (inv (top x s w u (y 0) (grp (y 1))))

/-- The scales. -/
def scales : (⟨2, ![16384, 98]⟩ : Shape).Idx → EReal := fun y => scale (top x s w u (y 0) (y 1))

end Cert.Spec
-- ==== Proof.Read.lean ====
/-
  Hand-written, untrusted. A GRID POINT'S RESULTS OVER THE EXTENDED REALS, element by element: a group's scale and codes as
  functions of the group's row, and a row's activations as a sum of products.
-/
module

public import proofs.«01_k».proof.Proof.Tile
public import proofs.«01_k».proof.Proof.Math
public import proofs.«01_k».proof.Proof.Spec
public import Idealize.ShloMosaic.Lib.Pointwise

@[expose] public section

noncomputable section

namespace Cert.KernelIdeal.Tile

open Cert.KernelIdeal Cert.KernelIdeal.Gen Idealize.ShloMosaic
open Cert.Spec (relu2 peak code)

theorem topOf_apply (v : FVec Ideal S512x128 .f32) (p : Fin 512) (z : Fin 1) :
    topOf v (ix2 p z) = peak fun l => v (ix2 p l) := by
  pointwise [topOf]
  rfl

theorem act_apply (x0 : Vec Ideal S512x9344 .fp8e4m3) (x1 : Vec Ideal S512x1 .f32) (w : Vec Ideal S9344x256 .fp8e4m3) (ws : Vec Ideal S1x256 .f32)
    (p : Fin 512) (l : Fin 256) :
    act x0 x1 w ws (ix2 p l) = relu2 (∑ k : Fin 9344, x0 (ix2 p k) * w (ix2 k l)) (x1 (ix2 p 0)) (ws (ix2 0 l)) := by
  unfold act
  rw [View.ld_unit_zero zero2, View.ld_unit_zero zero2]
  pointwise [k0_pay4, k0_pay1]
  unfold relu2
  rfl

theorem step_apply (a : FVec Ideal S512x1 .f32) (f : IVec S512x1 32) (b : BitVec 32) (j : S512x1.Idx) :
    step a f b j = Maths.step (a j) (f j) b := by
  show Scalar.select (Ideal.cmp .olt (a j) (Maths.pow (f j ||| b))) (f j) (f j ||| b) = _
  unfold Scalar.select Ideal.cmp Maths.step
  by_cases h : a j < Maths.pow (f j ||| b)
  · simp [h]
  · simp [h]

theorem search_apply (a : FVec Ideal S512x1 .f32) (j : S512x1.Idx) : search a j = Maths.field (a j) := by
  unfold search Maths.field
  simp only [step_apply]
  rfl

theorem fieldOf_apply (v : FVec Ideal S512x128 .f32) (p : Fin 512) (z : Fin 1) :
    fieldOf v (ix2 p z) = Maths.fixed (Maths.field (peak fun l => v (ix2 p l))) := by
  rw [← topOf_apply v p z, ← search_apply]
  show Scalar.select (Scalar.cmpi .eq (search (topOf v) (ix2 p z)) 0#32) 126#32 (search (topOf v) (ix2 p z)) = _
  unfold Scalar.select Maths.fixed
  by_cases h : search (topOf v) (ix2 p z) = 0#32
  · simp [h, Scalar.cmpi, IntOp.cmpi]
  · have h' : (search (topOf v) (ix2 p z) == 0#32) = false := by simpa using h
    simp [h, h', Scalar.cmpi, IntOp.cmpi]

theorem scaleOf_apply (v : FVec Ideal S512x128 .f32) (p : Fin 512) (z : Fin 1) :
    scaleOf v (ix2 p z) = Maths.scale (peak fun l => v (ix2 p l)) := by
  unfold Maths.scale
  rw [← fieldOf_apply v p z]
  rfl

theorem invOf_apply (v : FVec Ideal S512x128 .f32) (p : Fin 512) (z : Fin 1) :
    invOf v (ix2 p z) = Maths.inv (peak fun l => v (ix2 p l)) := by
  unfold Maths.inv
  rw [← fieldOf_apply v p z]
  rfl

theorem codesOf_apply (v : FVec Ideal S512x128 .f32) (p : Fin 512) (l : Fin 128) :
    codesOf v (ix2 p l) = code (v (ix2 p l)) (Maths.inv (peak fun l => v (ix2 p l))) := by
  rw [← invOf_apply v p 0]
  pointwise [codesOf]
  rfl

theorem half_apply (y : FVec Ideal S512x256 .f32) (h : ℕ) (hh : h < 2) (p : Fin 512) (l : Fin 128) :
    half y h hh (ix2 p l) = y (ix2 p ⟨128 * h + l.val, by omega⟩) := by
  pointwise [half]

theorem group_apply (x0 : Vec Ideal S512x9344 .fp8e4m3) (x1 : Vec Ideal S512x1 .f32) (x2 : Vec Ideal S9344x1792 .fp8e4m3) (x3 : Vec Ideal S1x1792 .f32)
    (n : ℕ) (hn : n < 14) (p : Fin 512) (l : Fin 128) :
    group x0 x1 x2 x3 n hn (ix2 p l) = relu2 (∑ k : Fin 9344, x0 (ix2 p k) * x2 (ix2 k ⟨128 * n + l.val, by omega⟩)) (x1 (ix2 p 0))
      (x3 (ix2 0 ⟨128 * n + l.val, by omega⟩)) := by
  have key : ∀ (l' : Fin 256), 256 * (n / 2) + l'.val = 128 * n + l.val →
      (∀ k : Fin 9344, slabW x2 (n / 2) (by omega) (ix2 k l') = x2 (ix2 k ⟨128 * n + l.val, by omega⟩)) ∧
      slabS x3 (n / 2) (by omega) (ix2 0 l') = x3 (ix2 0 ⟨128 * n + l.val, by omega⟩) := by
    intro l' hl
    refine ⟨fun k => ?_, ?_⟩
    · refine congrArg x2 (funext fun a => Fin.ext ?_)
      match a with
      | ⟨0, _⟩ => show 0 + 1 * _ = _; exact (Nat.zero_add _).trans (Nat.one_mul _)
      | ⟨1, _⟩ => show 256 * (n / 2) + 1 * l'.val = 128 * n + l.val; omega
    · refine congrArg x3 (funext fun a => Fin.ext ?_)
      match a with
      | ⟨0, _⟩ => show 0 + 1 * _ = _; exact (Nat.zero_add _).trans (Nat.one_mul _)
      | ⟨1, _⟩ => show 256 * (n / 2) + 1 * l'.val = 128 * n + l.val; omega
  unfold group
  rw [half_apply, act_apply]
  obtain ⟨hw, hs⟩ := key ⟨128 * (n % 2) + l.val, by omega⟩ (by show 256 * (n / 2) + (128 * (n % 2) + l.val) = _; omega)
  rw [hs]
  simp only [hw]

/-- A code of the tile: column `128 n + l` is element `l` of group `n`. -/
theorem codesTile_apply (x0 : Vec Ideal S512x9344 .fp8e4m3) (x1 : Vec Ideal S512x1 .f32) (x2 : Vec Ideal S9344x1792 .fp8e4m3) (x3 : Vec Ideal S1x1792 .f32)
    (n : ℕ) (hn : n < 14) (p : Fin 512) (l : Fin 128) :
    codesTile x0 x1 x2 x3 (ix2 p ⟨128 * n + l.val, by omega⟩) =
      code (group x0 x1 x2 x3 n hn (ix2 p l)) (Maths.inv (peak fun l => group x0 x1 x2 x3 n hn (ix2 p l))) := by
  rw [← codesOf_apply]
  exact (codesTile_piece x0 x1 x2 x3 n hn (ix2 p l) _ rfl rfl).symm

theorem lane_eq : ∀ (j : Fin 7) (n : Fin 14),
    lane (BitVec.ofNat 32 j.val) (BitVec.ofNat 32 (n.val / 2)) (BitVec.ofNat 32 (n.val % 2)) = BitVec.ofNat 32 (14 * j.val + n.val) := by
  decide +kernel

theorem lanes_apply (p : Fin 512) (q : Fin 98) : (k0_pay2 : IVec S512x98 32) (ix2 p q) = BitVec.ofNat 32 q.val := by
  pointwise [k0_pay2]

theorem putLane_apply (g : BitVec 32) (s : FVec Ideal S512x1 .f32) (old : FVec Ideal S512x98 .f32) (p : Fin 512) (q : Fin 98) :
    putLane g s old (ix2 p q) = if BitVec.ofNat 32 q.val = g then s (ix2 p 0) else old (ix2 p q) := by
  have hb : broadcastTo S512x98 (shapeCast S512x1 s shapeCasts_S512x1_S512x1) broadcasts_S512x1_S512x98 (ix2 p q) = s (ix2 p 0) := by
    pointwise
  show Scalar.select (Scalar.cmpi .eq ((k0_pay2 : IVec S512x98 32) (ix2 p q)) g) (broadcastTo S512x98 (shapeCast S512x1 s shapeCasts_S512x1_S512x1) broadcasts_S512x1_S512x98 (ix2 p q)) (old (ix2 p q)) = _
  rw [hb, lanes_apply]
  unfold Scalar.select
  by_cases h : BitVec.ofNat 32 q.val = g
  · simp [h, Scalar.cmpi, IntOp.cmpi]
  · have h' : (BitVec.ofNat 32 q.val == g) = false := by simpa using h
    simp [h, h', Scalar.cmpi, IntOp.cmpi]

/-- With the groups below `n` put in: lanes `14 j … 14 j + n - 1` hold their groups' scales, the others what was there. -/
theorem lanesBelow_apply (j : ℕ) (hj : j < 7) (V : (n : ℕ) → n < 14 → FVec Ideal S512x128 .f32) (old : FVec Ideal S512x98 .f32) (p : Fin 512) (q : Fin 98) :
    ∀ (n : ℕ) (hn : n ≤ 14), lanesBelow (BitVec.ofNat 32 j) V old n hn (ix2 p q) =
      if h : 14 * j ≤ q.val ∧ q.val < 14 * j + n then Maths.scale (peak fun l => V (q.val - 14 * j) (by omega) (ix2 p l)) else old (ix2 p q)
  | 0, hn => by rw [dif_neg (by omega)]; rfl
  | n + 1, hn => by
    have hl := lane_eq ⟨j, hj⟩ ⟨n, by omega⟩
    simp only at hl
    show putLane (lane (BitVec.ofNat 32 j) (BitVec.ofNat 32 (n / 2)) (BitVec.ofNat 32 (n % 2))) (scaleOf (V n (by omega)))
      (lanesBelow (BitVec.ofNat 32 j) V old n (by omega)) (ix2 p q) = _
    have hq : BitVec.ofNat 32 q.val = BitVec.ofNat 32 (14 * j + n) ↔ q.val = 14 * j + n := by
      constructor
      · intro h
        have := congrArg BitVec.toNat h
        simp only [BitVec.toNat_ofNat] at this
        omega
      · intro h; rw [h]
    rw [putLane_apply, hl, scaleOf_apply, lanesBelow_apply j hj V old p q n (by omega)]
    by_cases h : q.val = 14 * j + n
    · rw [if_pos (hq.mpr h), dif_pos (by omega)]
      have hn' : q.val - 14 * j = n := by omega
      simp only [hn']
    · rw [if_neg (fun hc => h (hq.mp hc))]
      by_cases h2 : 14 * j ≤ q.val ∧ q.val < 14 * j + n
      · rw [dif_pos h2, dif_pos (by omega)]
      · rw [dif_neg h2, dif_neg (by omega)]

theorem scalesTile_apply (j : ℕ) (hj : j < 7) (x0 : Vec Ideal S512x9344 .fp8e4m3) (x1 : Vec Ideal S512x1 .f32) (x2 : Vec Ideal S9344x1792 .fp8e4m3) (x3 : Vec Ideal S1x1792 .f32)
    (old : Vec Ideal S512x98 .f32) (p : Fin 512) (q : Fin 98) :
    scalesTile (BitVec.ofNat 32 j) x0 x1 x2 x3 old (ix2 p q) =
      if h : 14 * j ≤ q.val ∧ q.val < 14 * j + 14 then Maths.scale (peak fun l => group x0 x1 x2 x3 (q.val - 14 * j) (by omega) (ix2 p l)) else old (ix2 p q) := by
  unfold scalesTile
  rw [lanesBelow_apply j hj, View.ld_unit_zero zero2]
  have : (k0_pay3 old : FVec Ideal S512x98 .f32) = old := shapeCast_self ..
  rw [this]

end Cert.KernelIdeal.Tile
-- ==== Proof.Arrays.lean ====
/-
  Hand-written, untrusted. WHAT THE KERNEL LEAVES IN ITS TWO RESULT ARRAYS over the extended reals: the specification's
  codes and scales, by the search's scale and inverse. The codes' blocks are written back at every point. A row of tiles' scales
  are written back at its last point; the seven points before have by then put in their fourteen lanes each.
-/
module

public import proofs.«01_k».proof.Proof.Whole
public import proofs.«01_k».proof.Proof.Read

@[expose] public section

set_option maxRecDepth 16384

noncomputable section

namespace Cert.KernelIdeal.Arrays

open Cert.KernelIdeal Cert.KernelIdeal.Gen Cert.KernelIdeal.Whole Idealize.ShloMosaic Idealize.ShloMosaic.TcCoe
open Idealize.SL.Sem
open Idealize.ShloMosaic.Pipeline (Dat RDat Cfg Window)

variable (m : (ℓ : Loc nD τ sig) → Buf (Elt Ideal) ℓ) (c : Dev nD)

/-- The four arrays the call reads. -/
def X : Vec Ideal S16384x9344 .fp8e4m3 := V m c main_v2
def S : Vec Ideal S16384x1 .f32 := V m c main_v3
def W : Vec Ideal S9344x12544 .fp8e4m3 := V m c main_v1
def U : Vec Ideal S1x12544 .f32 := V m c main_v4

theorem t_lt (t : Fin cfg0.N) : t.val < 224 := t.isLt

theorem e0 : ∀ t : Fin cfg0.N, win0_0.index t = ![t.val / 7, 0] := by decide +kernel
theorem e1 : ∀ t : Fin cfg0.N, win0_1.index t = ![t.val / 7, 0] := by decide +kernel
theorem e2 : ∀ t : Fin cfg0.N, win0_2.index t = ![0, t.val % 7] := by decide +kernel
theorem e3 : ∀ t : Fin cfg0.N, win0_3.index t = ![0, t.val % 7] := by decide +kernel
theorem e4 : ∀ t : Fin cfg0.N, win0_4.index t = ![t.val / 7, t.val % 7] := by decide +kernel
theorem e5 : ∀ t : Fin cfg0.N, win0_5.index t = ![t.val / 7, 0] := by decide +kernel
theorem ej : ∀ t : Fin cfg0.N, (grid0.coords t 1).val = t.val % 7 := by decide +kernel

/-- Row `p` of tile row `t / 7`, and column `k` of tile column `t % 7`. -/
def row (t : Fin cfg0.N) (p : Fin 512) : Fin 16384 := ⟨512 * (t.val / 7) + p.val, by have := t_lt t; omega⟩
def colm (t : Fin cfg0.N) (k : Fin 1792) : Fin 12544 := ⟨1792 * (t.val % 7) + k.val, by omega⟩

theorem blk0 (t : Fin cfg0.N) (p : Fin 512) (k : Fin 9344) : iblk m c 0 t (ix2 p k) = X m c (ix2 (row t p) k) := by
  unfold X row
  blk_ext [iblk, e0]

theorem blk1 (t : Fin cfg0.N) (p : Fin 512) : iblk m c 1 t (ix2 p 0) = S m c (ix2 (row t p) 0) := by
  unfold S row
  blk_ext [iblk, e1]

theorem blk2 (t : Fin cfg0.N) (d : Fin 9344) (k : Fin 1792) : iblk m c 2 t (ix2 d k) = W m c (ix2 d (colm t k)) := by
  unfold W colm
  blk_ext [iblk, e2]

theorem blk3 (t : Fin cfg0.N) (k : Fin 1792) : iblk m c 3 t (ix2 0 k) = U m c (ix2 0 (colm t k)) := by
  unfold U colm
  blk_ext [iblk, e3]

/-- Local group `n` of point `t`, among the 98. -/
def grpAt (t : Fin cfg0.N) (n : ℕ) (hn : n < 14) : Fin 98 := ⟨14 * (t.val % 7) + n, by omega⟩

theorem group_eq (t : Fin cfg0.N) (n : ℕ) (hn : n < 14) (p : Fin 512) (l : Fin 128) :
    Tile.group (iblk m c 0 t) (iblk m c 1 t) (iblk m c 2 t) (iblk m c 3 t) n hn (ix2 p l)
      = Spec.act (X m c) (S m c) (W m c) (U m c) (row t p) (Spec.col (grpAt t n hn) l) := by
  have hc : colm t ⟨128 * n + l.val, by omega⟩ = Spec.col (grpAt t n hn) l := by
    unfold colm Spec.col grpAt
    apply Fin.ext
    show 1792 * (t.val % 7) + (128 * n + l.val) = 128 * (14 * (t.val % 7) + n) + l.val
    omega
  rw [Tile.group_apply]
  unfold Spec.act
  rw [blk1, blk3, hc]
  refine congrArg (fun z => Spec.relu2 z (S m c (ix2 (row t p) 0)) (U m c (ix2 0 (Spec.col (grpAt t n hn) l)))) ?_
  refine Finset.sum_congr rfl fun d _ => ?_
  rw [blk0, blk2, hc]

/-- The specified results, by the search's scale and inverse. -/
def codesOut : (⟨2, ![16384, 12544]⟩ : Shape).Idx → EReal := Spec.codes (X m c) (S m c) (W m c) (U m c) Maths.inv
def scalesOut : (⟨2, ![16384, 98]⟩ : Shape).Idx → EReal := Spec.scales (X m c) (S m c) (W m c) (U m c) Maths.scale

theorem codesAt_eq (t : Fin cfg0.N) (p : Fin 512) (k : Fin 1792) :
    codesAt m c t (ix2 p k) = codesOut m c (ix2 (row t p) (colm t k)) := by
  have hn : k.val / 128 < 14 := by omega
  have hk : k = ⟨128 * (k.val / 128) + (⟨k.val % 128, Nat.mod_lt _ (by decide)⟩ : Fin 128).val, by
      show 128 * (k.val / 128) + k.val % 128 < 1792; omega⟩ := Fin.ext (Nat.div_add_mod k.val 128).symm
  have hg : Spec.grp (colm t k) = grpAt t (k.val / 128) hn := by
    apply Fin.ext; show (1792 * (t.val % 7) + k.val) / 128 = 14 * (t.val % 7) + k.val / 128; omega
  have hcol : Spec.col (grpAt t (k.val / 128) hn) ⟨k.val % 128, Nat.mod_lt _ (by decide)⟩ = colm t k := by
    apply Fin.ext; show 128 * (14 * (t.val % 7) + k.val / 128) + k.val % 128 = 1792 * (t.val % 7) + k.val; omega
  have h := Tile.codesTile_apply (iblk m c 0 t) (iblk m c 1 t) (iblk m c 2 t) (iblk m c 3 t) (k.val / 128) hn p ⟨k.val % 128, Nat.mod_lt _ (by decide)⟩
  rw [← hk] at h
  refine h.trans ?_
  simp only [group_eq, hcol]
  show _ = Spec.code (Spec.act _ _ _ _ (row t p) (colm t k)) (Maths.inv (Spec.top _ _ _ _ (row t p) (Spec.grp (colm t k))))
  rw [hg]
  rfl

theorem scalesAt_eq (t : Fin cfg0.N) (old : Vec Ideal S512x98 .f32) (p : Fin 512) (q : Fin 98) :
    scalesAt m c t old (ix2 p q) =
      if 14 * (t.val % 7) ≤ q.val ∧ q.val < 14 * (t.val % 7) + 14 then scalesOut m c (ix2 (row t p) q) else old (ix2 p q) := by
  unfold scalesAt
  rw [ej, Tile.scalesTile_apply _ (Nat.mod_lt _ (by decide))]
  by_cases h : 14 * (t.val % 7) ≤ q.val ∧ q.val < 14 * (t.val % 7) + 14
  · rw [dif_pos h, if_pos h]
    have hg : grpAt t (q.val - 14 * (t.val % 7)) (by omega) = q := by
      apply Fin.ext; show 14 * (t.val % 7) + (q.val - 14 * (t.val % 7)) = q.val; omega
    simp only [group_eq, hg]
    rfl
  · rw [dif_neg h, if_neg h]

/-- After point `t` of a row of tiles the lanes up to its own hold the specified scales, whatever was there at first. -/
theorem leaves_scales (k : ℕ) : ∀ (t : Fin cfg0.N), t.val % 7 = k → ∀ (Z : (cfg0.win 5).block.Idx → Elt Ideal (cfg0.win 5).elt),
    (data m c).Leaves 5 t Z → ∀ (p : Fin 512) (q : Fin 98), q.val < 14 * (k + 1) →
      (Z : Vec Ideal S512x98 .f32) (ix2 p q) = scalesOut m c (ix2 (row t p) q) := by
  induction k with
  | zero =>
    rintro t ht Z ⟨Y, -, hZ⟩ p q hq
    have hZ := (rel_5 m c t Y Z).mp hZ
    subst hZ
    exact (scalesAt_eq m c t Y p q).trans (if_pos (by omega))
  | succ k ih =>
    rintro t ht Z ⟨Y, hY, hZ⟩ p q hq
    have hZ := (rel_5 m c t Y Z).mp hZ
    subst hZ
    refine (scalesAt_eq m c t Y p q).trans ?_
    by_cases h : 14 * (t.val % 7) ≤ q.val ∧ q.val < 14 * (t.val % 7) + 14
    · exact if_pos h
    · rw [if_neg h]
      have hf : (cfg0.win 5).fetch t = false := rfl
      have h0 : t.val ≠ 0 := by omega
      have hY' := ((data m c).finds_of_pos hf h0 Y).mp hY
      have hnf : ¬ (cfg0.win 5).flush ⟨t.val - 1, Nat.lt_of_le_of_lt (Nat.sub_le _ _) t.isLt⟩ = true := by
        intro hc
        have := (flush0_5 _).mp hc
        simp only at this
        omega
      have hprev := ih ⟨t.val - 1, Nat.lt_of_le_of_lt (Nat.sub_le _ _) t.isLt⟩ (by show (t.val - 1) % 7 = k; omega) Y (hY'.resolve_left hnf) p q (by omega)
      refine hprev.trans ?_
      have hr : row ⟨t.val - 1, Nat.lt_of_le_of_lt (Nat.sub_le _ _) t.isLt⟩ p = row t p := by
        apply Fin.ext; show 512 * ((t.val - 1) / 7) + p.val = 512 * (t.val / 7) + p.val; omega
      rw [hr]

theorem leaves_codes (t : Fin cfg0.N) (Z : (cfg0.win 4).block.Idx → Elt Ideal (cfg0.win 4).elt) (h : (data m c).Leaves 4 t Z) :
    Z = codesAt m c t := by
  obtain ⟨Y, -, hZ⟩ := h
  exact (rel_4 m c t Y Z).mp hZ

/-- THE KERNEL'S RESULTS. -/
theorem results {r : PUnit × MemSt nD τ sig (Elt Ideal)} (h : RDat.FramePost (cfgs 0) (data m) (V m) r) :
    r.2.mem ((c.tc : Thread nD τ).loc main_v5_0) = codesOut m c ∧ r.2.mem ((c.tc : Thread nD τ).loc main_v5_1) = scalesOut m c := by
  obtain ⟨after, hL, hA⟩ := h.exists_exact c
  constructor
  · refine (hA 4).trans (Dat.arrAt_eq_of_covers _ 4 _ (by decide +kernel) fun t hf y => ?_)
    have hc := leaves_codes m c t _ (hL 4 t hf)
    blk_simp
    rw [RDat.withAfter_after, hc]
    refine (congrArg (codesAt m c t) (eq_ix2 (n0 := 512) (n1 := 1792) y)).trans ((codesAt_eq m c t (y 0) (y 1)).trans ?_)
    unfold row colm
    blk_ext [e4]
  · refine (hA 5).trans (Dat.arrAt_eq_of_covers _ 5 _ (by decide +kernel) fun t hf y => ?_)
    have hc := leaves_scales m c 6 t ((flush0_5 t).mp hf) _ (hL 5 t hf) (y 0) (y 1) (y 1).isLt
    blk_simp
    rw [RDat.withAfter_after]
    refine (congrArg (after 5 t) (eq_ix2 (n0 := 512) (n1 := 98) y)).trans (hc.trans ?_)
    unfold row
    blk_ext [e5]

end Cert.KernelIdeal.Arrays
-- ==== Proof.Ref.lean ====
/-
  Hand-written, untrusted. WHAT THE REFERENCE LEAVES IN ITS TWO RESULT ARRAYS over the extended reals: the specification's
  codes and scales, by two to the reference's exponent.
-/
module

public import proofs.«01_k».proof.Proof.Gen.ReferenceIdeal.Value
public import Idealize.ShloMosaic.Lib.Pipeline.ValueKit
public import proofs.«01_k».proof.Proof.Spec
public import proofs.«01_k».proof.Proof.Math

@[expose] public section

set_option maxRecDepth 16384

noncomputable section

namespace Cert.ReferenceIdeal.Arrays

open Cert.ReferenceIdeal Cert.ReferenceIdeal.Gen Idealize.ShloMosaic Idealize.ShloMosaic.TcCoe
open Idealize.SL.Sem
open Idealize.ShloMosaic.Pipeline (Dat)

theorem lift_eq {n0 n1 n2 : ℕ} (h : (⟨3, ![n0, n1, n2]⟩ : Shape).Reduces [2] ⟨2, ![n0, n1]⟩) (r : Fin n0) (g : Fin n1) (l : Fin n2) :
    h.lift (ix2 r g) l = ix3 r g l := by
  funext a
  refine Fin.ext ?_
  match a with
  | ⟨0, _⟩ => rfl
  | ⟨1, _⟩ => rfl
  | ⟨2, _⟩ => rfl

/-- The maximum over the last of three axes. -/
def maxs {n0 n1 n2 : ℕ} (v : FVec Ideal ⟨3, ![n0, n1, n2]⟩ .f32) (h : (⟨3, ![n0, n1, n2]⟩ : Shape).Reduces [2] ⟨2, ![n0, n1]⟩) :
    FVec Ideal ⟨2, ![n0, n1]⟩ .f32 :=
  multiReduction .maximumf [2] ⟨2, ![n0, n1]⟩ v 0xFF800000#32 h (.inl rfl) rfl

theorem maxs_apply {n0 n1 n2 : ℕ} (v : FVec Ideal ⟨3, ![n0, n1, n2]⟩ .f32) (h : (⟨3, ![n0, n1, n2]⟩ : Shape).Reduces [2] ⟨2, ![n0, n1]⟩)
    (r : Fin n0) (g : Fin n1) :
    maxs v h (ix2 r g) = (Finset.univ : Finset (Fin n2)).fold max (Ideal.ofBits .f32 0xFF800000#32) fun l => v (ix3 r g l) := by
  refine (Ideal.multiReduction_maximumf_single v 0xFF800000#32 h (.inl rfl) rfl (ix2 r g)).trans ?_
  exact congrArg (fun f => Finset.fold max (Ideal.ofBits .f32 0xFF800000#32) f Finset.univ) (funext fun l => congrArg v (lift_eq h r g l))

variable (x : Vec Ideal S16384x9344 .fp8e4m3) (w : Vec Ideal S9344x12544 .fp8e4m3) (s : Vec Ideal S16384x1 .f32) (u : Vec Ideal S1x12544 .f32)

theorem act_apply (r : Fin 16384) (g : Fin 98) (l : Fin 128) :
    k0_pay3 x w s u (ix3 r g l) = Spec.act x s w u r (Spec.col g l) := by
  have hc : Spec.col g l = ⟨g.val * 128 + l.val, by omega⟩ := Fin.ext (by show 128 * g.val + l.val = g.val * 128 + l.val; omega)
  rw [hc]
  pointwise [k0_pay3]
  unfold Spec.act Spec.relu2
  rfl

/-- The largest magnitude of each group, divided by the largest code. -/
def peaks (v : FVec Ideal S16384x98x128 .f32) : FVec Ideal S16384x98 .f32 :=
  mulf (maxs v reduces_S16384x98x128_S16384x98)
    (broadcast S16384x98 (Scalar.ofBits .f32 0x3B124925#32))

/-- The exponents, as a function of those. -/
def expos (a : FVec Ideal S16384x98 .f32) : FVec Ideal S16384x98 .f32 :=
  select (cmpf .olt a (broadcast S16384x98 (Scalar.ofBits .f32 0x00800000#32))) (broadcast S16384x98 (Scalar.ofBits .f32 0x00000000#32))
    (addf (floor (divf (log a) (broadcast S16384x98 (Named.named κ "ln2" 0x3F317218#32)))) (broadcast S16384x98 (Scalar.ofBits .f32 0x3F800000#32)))

/-- The codes before their change of format, as a function of the activations and the exponents. -/
def clipped (v : FVec Ideal S16384x98x128 .f32) (e : FVec Ideal S16384x98 .f32) : FVec Ideal S16384x98x128 .f32 :=
  minimumf (broadcast S16384x98x128 (Scalar.ofBits .f32 0x43E00000#32)) (maximumf (broadcast S16384x98x128 (Scalar.ofBits .f32 0xC3E00000#32))
    (mulf v (broadcastTo S16384x98x128 (shapeCast S16384x98x1 (exp2 (subf (broadcast S16384x98 (Scalar.ofBits .f32 0x00000000#32)) e)) shapeCasts_S16384x98_S16384x98x1)
      broadcasts_S16384x98x1_S16384x98x128)))

theorem pay4_eq : k0_pay4 x w s u = expos (peaks (absf (k0_pay3 x w s u))) := by
  unfold k0_pay4 expos peaks maxs
  rfl

theorem pay5_eq : k0_pay5 x w s u = clipped (k0_pay3 x w s u) (k0_pay4 x w s u) := by
  unfold k0_pay5 clipped
  rfl

theorem ln2 : (Named.named κ "ln2" 0x3F317218#32 : Ideal .f32) = ((Real.log 2 : ℝ) : EReal) := rfl

theorem peaks_apply (v : FVec Ideal S16384x98x128 .f32) (r : Fin 16384) (g : Fin 98) :
    peaks v (ix2 r g) = Spec.peak fun l => v (ix3 r g l) := by
  unfold peaks Spec.peak
  rw [mulf_apply, maxs_apply]
  rfl

theorem expos_apply (a : FVec Ideal S16384x98 .f32) (j : S16384x98.Idx) : expos a j = Maths.expo (a j) := by
  unfold expos Maths.expo
  rw [← ln2]
  show Scalar.select (Ideal.cmp .olt (a j) (Ideal.ofBits .f32 0x00800000#32)) (Ideal.ofBits .f32 0x00000000#32) (_ : EReal) = _
  unfold Scalar.select Ideal.cmp
  by_cases h : a j < Ideal.ofBits .f32 0x00800000#32
  · simp [h]
  · simp only [h, decide_false, BitVec.ofBool_false, if_false]
    rfl

theorem abs_apply (v : FVec Ideal S16384x98x128 .f32) (j : S16384x98x128.Idx) (hv : 0 ≤ v j) : absf v j = v j := by
  show max (v j) (-(v j)) = v j
  exact max_eq_left ((EReal.neg_le_neg_iff.mpr hv).trans (by simpa using hv))

theorem clipped_apply (v : FVec Ideal S16384x98x128 .f32) (e : FVec Ideal S16384x98 .f32) (r : Fin 16384) (g : Fin 98) (l : Fin 128) :
    clipped v e (ix3 r g l) = Spec.code (v (ix3 r g l)) (Ideal.exp2 (Ideal.ofBits .f32 0x00000000#32 - e (ix2 r g))) := by
  have hb : ∀ f : FVec Ideal S16384x98 .f32, broadcastTo S16384x98x128 (shapeCast S16384x98x1 f shapeCasts_S16384x98_S16384x98x1)
      broadcasts_S16384x98x1_S16384x98x128 (ix3 r g l) = f (ix2 r g) := fun f => by
    pointwise
  unfold clipped Spec.code
  rw [← hb fun j => Ideal.exp2 (Ideal.ofBits .f32 0x00000000#32 - e j)]
  rfl

theorem out_apply (v : FVec Ideal S16384x98x128 .f32) (r : Fin 16384) (k : Fin 12544) :
    (k0_pay1 v) (ix2 r k) = v (ix3 r (Spec.grp k) (Spec.plc k)) := by
  pointwise [k0_pay1]
  rfl

theorem relu2_nonneg (d a b : EReal) : 0 ≤ Spec.relu2 d a b := mul_nonneg (le_max_right _ _) (le_max_right _ _)

theorem scale_apply (e : FVec Ideal S16384x98 .f32) (j : S16384x98.Idx) : k0_pay2 e j = Ideal.exp2 (e j) := rfl

/-- The reference's two functions of a group's peak. -/
def refScale (a : EReal) : EReal := Ideal.exp2 (Maths.expo a)
def refInv (a : EReal) : EReal := Ideal.exp2 (Ideal.ofBits .f32 0x00000000#32 - Maths.expo a)

theorem exponent_apply (r : Fin 16384) (g : Fin 98) : k0_pay4 x w s u (ix2 r g) = Maths.expo (Spec.top x s w u r g) := by
  rw [pay4_eq, expos_apply, peaks_apply]
  refine congrArg (fun f => Maths.expo (Spec.peak f)) (funext fun l => ?_)
  have h := act_apply x w s u r g l
  rw [abs_apply _ _ (h ▸ relu2_nonneg _ _ _), h]

theorem codes_apply (r : Fin 16384) (k : Fin 12544) :
    k0_pay1 (k0_pay5 x w s u) (ix2 r k) = Spec.codes x s w u refInv (ix2 r k) := by
  rw [out_apply, pay5_eq, clipped_apply, exponent_apply, act_apply, Spec.col_grp_plc]
  rfl

theorem scales_apply (r : Fin 16384) (g : Fin 98) :
    k0_pay2 (k0_pay4 x w s u) (ix2 r g) = Spec.scales x s w u refScale (ix2 r g) := by
  rw [scale_apply, exponent_apply]
  rfl

variable (m : (ℓ : Loc nD τ sig) → Buf (Elt Ideal) ℓ) (c : Dev nD)

/-- The four arrays the call reads. -/
def X : Vec Ideal S16384x9344 .fp8e4m3 := V m c main_v2
def S : Vec Ideal S16384x1 .f32 := V m c main_v3
def W : Vec Ideal S9344x12544 .fp8e4m3 := V m c main_v1
def U : Vec Ideal S1x12544 .f32 := V m c main_v4

theorem e0 : ∀ t : Fin cfg0.N, win0_0.index t = ![0, 0] := by decide +kernel
theorem e1 : ∀ t : Fin cfg0.N, win0_1.index t = ![0, 0] := by decide +kernel
theorem e2 : ∀ t : Fin cfg0.N, win0_2.index t = ![0, 0] := by decide +kernel
theorem e3 : ∀ t : Fin cfg0.N, win0_3.index t = ![0, 0] := by decide +kernel
theorem e4 : ∀ t : Fin cfg0.N, win0_4.index t = ![0, 0] := by decide +kernel
theorem e5 : ∀ t : Fin cfg0.N, win0_5.index t = ![0, 0] := by decide +kernel

theorem blk0 (t : Fin cfg0.N) (y : S16384x9344.Idx) : iblk m c 0 t y = X m c y := by
  unfold X
  blk_ext [iblk, e0]

theorem blk1 (t : Fin cfg0.N) (y : S16384x1.Idx) : iblk m c 1 t y = S m c y := by
  unfold S
  blk_ext [iblk, e1]

theorem blk2 (t : Fin cfg0.N) (y : S9344x12544.Idx) : iblk m c 2 t y = W m c y := by
  unfold W
  blk_ext [iblk, e2]

theorem blk3 (t : Fin cfg0.N) (y : S1x12544.Idx) : iblk m c 3 t y = U m c y := by
  unfold U
  blk_ext [iblk, e3]

/-- The specified results, by two to the reference's exponent. -/
def codesOut : (⟨2, ![16384, 12544]⟩ : Shape).Idx → EReal := Spec.codes (X m c) (S m c) (W m c) (U m c) refInv
def scalesOut : (⟨2, ![16384, 98]⟩ : Shape).Idx → EReal := Spec.scales (X m c) (S m c) (W m c) (U m c) refScale

theorem zero2 : (![0, 0] : Fin 2 → ℕ) = fun _ => 0 := by decide

theorem out4 (t : Fin cfg0.N) : out0_4 (iblk m c 0 t) (iblk m c 1 t) (iblk m c 2 t) (iblk m c 3 t) = codesOut m c := by
  rw [show iblk m c 0 t = X m c from funext (blk0 m c t), show iblk m c 1 t = S m c from funext (blk1 m c t),
    show iblk m c 2 t = W m c from funext (blk2 m c t), show iblk m c 3 t = U m c from funext (blk3 m c t)]
  unfold out0_4
  rw [View.canon_unit_zero zero2, View.ld_unit_zero zero2, View.ld_unit_zero zero2, View.ld_unit_zero zero2, View.ld_unit_zero zero2]
  refine funext fun y => ?_
  rw [eq_ix2 (n0 := 16384) (n1 := 12544) y]
  exact codes_apply (X m c) (W m c) (S m c) (U m c) _ _

theorem out5 (t : Fin cfg0.N) : out0_5 (iblk m c 0 t) (iblk m c 1 t) (iblk m c 2 t) (iblk m c 3 t) = scalesOut m c := by
  rw [show iblk m c 0 t = X m c from funext (blk0 m c t), show iblk m c 1 t = S m c from funext (blk1 m c t),
    show iblk m c 2 t = W m c from funext (blk2 m c t), show iblk m c 3 t = U m c from funext (blk3 m c t)]
  unfold out0_5
  rw [View.canon_unit_zero zero2, View.ld_unit_zero zero2, View.ld_unit_zero zero2, View.ld_unit_zero zero2, View.ld_unit_zero zero2]
  refine funext fun y => ?_
  rw [eq_ix2 (n0 := 16384) (n1 := 98) y]
  exact scales_apply (X m c) (W m c) (S m c) (U m c) _ _

/-- THE REFERENCE'S RESULTS. -/
theorem codes_eq : (dats m 0 c).arrAt 4 cfg0.N = codesOut m c := by
  refine Dat.arrAt_eq_of_covers _ 4 _ (by decide +kernel) fun t hf y => ?_
  blk_simp
  rw [after0_4, out4]
  blk_ext [e4]

theorem scales_eq : (dats m 0 c).arrAt 5 cfg0.N = scalesOut m c := by
  refine Dat.arrAt_eq_of_covers _ 5 _ (by decide +kernel) fun t hf y => ?_
  blk_simp
  rw [after0_5, out5]
  blk_ext [e5]

end Cert.ReferenceIdeal.Arrays
-- ==== Proof.Args.lean ====
/-
  Hand-written, untrusted. WHAT THE CALL READS, in terms of the arguments: the same layout operations in both programs.
-/
module

public import proofs.«01_k».proof.Proof.Arrays
public import proofs.«01_k».proof.Proof.Ref
public import Idealize.ShloMosaic.Lib.StableHlo.RunRead

@[expose] public section

noncomputable section

open Idealize.ShloMosaic Idealize.ShloMosaic.TcCoe Idealize.SL.Sem

namespace Cert.Args

open Cert.KernelIdeal Cert.KernelIdeal.Gen

def x (a : IVec S8x2048x9344 8) : Vec Ideal S16384x9344 .fp8e4m3 :=
  shapeCast S16384x9344 (bitcastToFloat (F := Ideal) .fp8e4m3 a) shapeCasts_S8x2048x9344_S16384x9344
def s (a : FVec Ideal S8x2048 .f32) : Vec Ideal S16384x1 .f32 := shapeCast S16384x1 a shapeCasts_S8x2048_S16384x1
def w (a : IVec S9344x12544 8) : Vec Ideal S9344x12544 .fp8e4m3 := bitcastToFloat (F := Ideal) .fp8e4m3 a
def u (a : FVec Ideal S12544 .f32) : Vec Ideal S1x12544 .f32 := shapeCast S1x12544 a shapeCasts_S12544_S1x12544

end Cert.Args

namespace Cert.KernelIdeal.Arrays

open Cert.KernelIdeal Cert.KernelIdeal.Gen

variable (m : (ℓ : Loc nD τ sig) → Buf (Elt Ideal) ℓ) (c : Dev nD)

theorem X_eq : X m c = Args.x (m ((c.tc : Thread nD τ).loc main_arg0)) := by
  unfold X V
  after_reads_simp
  rfl

theorem S_eq : S m c = Args.s (m ((c.tc : Thread nD τ).loc main_arg1)) := by
  unfold S V
  after_reads_simp
  rfl

theorem W_eq : W m c = Args.w (m ((c.tc : Thread nD τ).loc main_arg2)) := by
  unfold W V
  after_reads_simp
  rfl

theorem U_eq : U m c = Args.u (m ((c.tc : Thread nD τ).loc main_arg3)) := by
  unfold U V
  after_reads_simp
  rfl

end Cert.KernelIdeal.Arrays

namespace Cert.ReferenceIdeal.Arrays

open Cert.ReferenceIdeal Cert.ReferenceIdeal.Gen

variable (m : (ℓ : Loc nD τ sig) → Buf (Elt Ideal) ℓ) (c : Dev nD)

theorem X_eq : X m c = Args.x (m ((c.tc : Thread nD τ).loc main_arg0)) := by
  unfold X V
  after_reads_simp
  rfl

theorem S_eq : S m c = Args.s (m ((c.tc : Thread nD τ).loc main_arg1)) := by
  unfold S V
  after_reads_simp
  rfl

theorem W_eq : W m c = Args.w (m ((c.tc : Thread nD τ).loc main_arg2)) := by
  unfold W V
  after_reads_simp
  rfl

theorem U_eq : U m c = Args.u (m ((c.tc : Thread nD τ).loc main_arg3)) := by
  unfold U V
  after_reads_simp
  rfl

end Cert.ReferenceIdeal.Arrays
-- ==== Proof.Bound.lean ====
/-
  Hand-written, untrusted. THE BOUND. A byte of the eight-bit format that is not one of its two patterns without a value is a
  real of magnitude at most 448. With the product of a row's and a column's scales of magnitude at most `2 ^ 36`, an
  activation is then a real below `2 ^ 134`, and a group's peak a real below `2 ^ 126`: there the search's scale and inverse
  are the reference's.
-/
module

public import proofs.«01_k».proof.Proof.Spec
public import proofs.«01_k».proof.Proof.Math

@[expose] public section

noncomputable section

namespace Cert.Bounds

open Idealize.ShloMosaic

theorem fields : ∀ b : BitVec 8, b ≠ 127#8 → b ≠ 255#8 →
    (b.extractLsb' 3 4).toNat ≤ 15 ∧ (b.extractLsb' 0 3).toNat ≤ 7 ∧
    ¬ ((b.extractLsb' 3 4).toNat = 15 ∧ (b.extractLsb' 0 3).toNat = 7) := by decide +kernel

theorem magnitude {ex fr : ℕ} (he : ex ≤ 15) (hf : fr ≤ 7) (h : ¬ (ex = 15 ∧ fr = 7)) :
    ((8 + fr : ℕ) : ℝ) * (2 : ℝ) ^ ((ex : ℤ) - 10) ≤ 448 := by
  have h2 : (0 : ℝ) ≤ ((8 + fr : ℕ) : ℝ) := Nat.cast_nonneg _
  by_cases h15 : ex = 15
  · have : ((8 + fr : ℕ) : ℝ) ≤ 14 := by exact_mod_cast (by omega : 8 + fr ≤ 14)
    subst h15
    norm_num at this ⊢
    linarith
  · have hp : (2 : ℝ) ^ ((ex : ℤ) - 10) ≤ (2 : ℝ) ^ (4 : ℤ) := zpow_le_zpow_right₀ (by norm_num) (by omega)
    have h3 : ((8 + fr : ℕ) : ℝ) ≤ 15 := by exact_mod_cast (by omega : 8 + fr ≤ 15)
    calc _ ≤ (15 : ℝ) * (2 : ℝ) ^ (4 : ℤ) := mul_le_mul h3 hp (by positivity) (by norm_num)
      _ ≤ 448 := by norm_num

/-- A byte's value. -/
theorem byte_real (b : BitVec 8) (h1 : b ≠ 127#8) (h2 : b ≠ 255#8) :
    ∃ q : ℝ, |q| ≤ 448 ∧ Ideal.ofBits .fp8e4m3 b = (q : EReal) := by
  obtain ⟨he, hf, hn⟩ := fields b h1 h2
  have hs : ∀ (p : Prop) [Decidable p], |(if p then (-1 : ℝ) else 1)| = 1 := fun p _ => by
    split
    · rw [abs_neg, abs_one]
    · exact abs_one
  show ∃ q : ℝ, |q| ≤ 448 ∧ Ideal.e4m3fn b = (q : EReal)
  unfold Ideal.e4m3fn
  simp only [if_neg hn]
  split
  · refine ⟨_, ?_, rfl⟩
    rw [mul_assoc, abs_mul, hs, one_mul, abs_of_nonneg (by positivity)]
    have : (((b.extractLsb' 0 3).toNat : ℕ) : ℝ) ≤ 7 := by exact_mod_cast hf
    calc _ ≤ (7 : ℝ) * (2 : ℝ) ^ (-9 : ℤ) := mul_le_mul_of_nonneg_right this (by positivity)
      _ ≤ 448 := by norm_num
  · refine ⟨_, ?_, rfl⟩
    rw [mul_assoc, abs_mul, hs, one_mul, abs_of_nonneg (by positivity)]
    exact magnitude he hf hn

/-- A sum of bounded reals. -/
theorem sum_real {ι : Type} (t : Finset ι) (f : ι → EReal) (B : ℝ) (h : ∀ i, ∃ r : ℝ, |r| ≤ B ∧ f i = (r : EReal)) :
    ∃ r : ℝ, |r| ≤ t.card * B ∧ ∑ i ∈ t, f i = (r : EReal) := by
  classical
  induction t using Finset.induction_on with
  | empty => exact ⟨0, by simp, by simp⟩
  | insert a t ha ih =>
    obtain ⟨r, hr, e⟩ := ih
    obtain ⟨q, hq, e'⟩ := h a
    refine ⟨q + r, ?_, ?_⟩
    · rw [Finset.card_insert_of_notMem ha, Nat.cast_add, Nat.cast_one, add_mul, one_mul, add_comm (_ * B)]
      exact (abs_add_le q r).trans (add_le_add hq hr)
    · rw [Finset.sum_insert ha, e, e', EReal.coe_add]

/-- A product whose magnitude is bounded. -/
theorem prod_real {s t : EReal} {B : ℝ} (h : max s (-s) * max t (-t) ≤ (B : EReal)) :
    ∃ p : ℝ, |p| ≤ B ∧ s * t = (p : EReal) := by
  have habs : ∀ z : EReal, 0 ≤ max z (-z) ∧ (max z (-z) = z ∨ max z (-z) = -z) := fun z => by
    rcases le_total 0 z with hz | hz
    · exact ⟨le_max_of_le_left hz, max_choice _ _⟩
    · exact ⟨le_max_of_le_right (EReal.neg_nonneg.mpr hz), max_choice _ _⟩
  obtain ⟨s0, hs⟩ := habs s
  obtain ⟨t0, ht⟩ := habs t
  have h0 : 0 ≤ max s (-s) * max t (-t) := mul_nonneg s0 t0
  have hst : max s (-s) * max t (-t) = s * t ∨ max s (-s) * max t (-t) = -(s * t) := by
    rcases hs with e | e <;> rcases ht with e' | e' <;> rw [e, e']
    · exact .inl rfl
    · exact .inr (mul_neg s t)
    · exact .inr (neg_mul s t)
    · exact .inl (neg_mul_neg s t)
  generalize max s (-s) * max t (-t) = M at h h0 hst
  lift M to ℝ using ⟨fun e => by rw [e] at h; exact absurd h (not_le.mpr (EReal.coe_lt_top B)), fun e => by
    rw [e] at h0; exact absurd h0 (not_le.mpr EReal.bot_lt_zero)⟩
  have hM : |M| ≤ B := by rw [abs_of_nonneg (EReal.coe_nonneg.mp h0)]; exact EReal.coe_le_coe_iff.mp h
  rcases hst with e | e
  · exact ⟨M, hM, e.symm⟩
  · exact ⟨-M, by rwa [abs_neg], by rw [EReal.coe_neg, e, neg_neg]⟩

theorem relu2_real {d s t : EReal} {D P : ℝ} (hd : ∃ r : ℝ, |r| ≤ D ∧ d = (r : EReal)) (hp : ∃ p : ℝ, |p| ≤ P ∧ s * t = (p : EReal)) :
    ∃ a : ℝ, 0 ≤ a ∧ a ≤ (D * P) * (D * P) ∧ Spec.relu2 d s t = (a : EReal) := by
  obtain ⟨r, hr, rfl⟩ := hd
  obtain ⟨p, hp, e⟩ := hp
  have hD : 0 ≤ D := (abs_nonneg r).trans hr
  have hP : 0 ≤ P := (abs_nonneg p).trans hp
  have hm : max (r * p) 0 ≤ D * P := max_le ((le_abs_self _).trans (by rw [abs_mul]; exact mul_le_mul hr hp (abs_nonneg _) hD)) (mul_nonneg hD hP)
  refine ⟨max (r * p) 0 * max (r * p) 0, mul_nonneg (le_max_right _ _) (le_max_right _ _), mul_le_mul hm hm (le_max_right _ _) (mul_nonneg hD hP), ?_⟩
  unfold Spec.relu2
  rw [e, ← EReal.coe_mul, EReal.coe_mul (max (r * p) 0), EReal.coe_strictMono.monotone.map_max, EReal.coe_zero]

theorem bits_bot : Ideal.ofBits .f32 0xFF800000#32 = ⊥ := by
  show Ideal.ieee 8 23 0xFF800000#32 = ⊥
  unfold Ideal.ieee
  rw [if_pos (by decide), if_pos (by decide), if_pos (by decide)]

theorem bits_ratio : ∃ q : ℝ, 0 ≤ q ∧ q ≤ (2 : ℝ) ^ (-8 : ℤ) ∧ Ideal.ofBits .f32 0x3B124925#32 = (q : EReal) := by
  refine ⟨(1 : ℝ) * ((2 ^ 23 + 1198373 : ℕ) : ℝ) * (2 : ℝ) ^ ((118 : ℤ) - 127 - 23), by positivity, by norm_num, ?_⟩
  have hs : ((0x3B124925#32).extractLsb' (8 + 23) 1 == 1#1) = false := by decide
  have he : ((0x3B124925#32).extractLsb' 23 8).toNat = 118 := by decide
  have hf : ((0x3B124925#32).extractLsb' 0 23).toNat = 1198373 := by decide
  show Ideal.ieee 8 23 0x3B124925#32 = _
  unfold Ideal.ieee
  simp only [hs, he, hf, if_false, Bool.false_eq_true]
  rw [if_neg (by norm_num), if_neg (by norm_num)]
  norm_num

theorem peak_real {v : Fin 128 → EReal} {B : ℝ} (h : ∀ l, ∃ a : ℝ, 0 ≤ a ∧ a ≤ B ∧ v l = (a : EReal)) :
    ∃ r : ℝ, r ≤ B * (2 : ℝ) ^ (-8 : ℤ) ∧ Spec.peak v = (r : EReal) := by
  obtain ⟨q, hq0, hq, e⟩ := bits_ratio
  unfold Spec.peak
  rw [e, bits_bot]
  have hle : Finset.univ.fold max ⊥ v ≤ (B : EReal) := (Finset.fold_max_le _).mpr ⟨bot_le, fun l _ => by
    obtain ⟨a, -, ha, e⟩ := h l; rw [e]; exact EReal.coe_le_coe_iff.mpr ha⟩
  have hge : (0 : EReal) ≤ Finset.univ.fold max ⊥ v := (Finset.le_fold_max _).mpr (.inr ⟨0, Finset.mem_univ _, by
    obtain ⟨a, ha, -, e⟩ := h 0; rw [e]; exact EReal.coe_nonneg.mpr ha⟩)
  generalize Finset.univ.fold max ⊥ v = M at hle hge
  lift M to ℝ using ⟨fun e => by rw [e] at hle; exact absurd hle (not_le.mpr (EReal.coe_lt_top B)), fun e => by
    rw [e] at hge; exact absurd hge (not_le.mpr EReal.bot_lt_zero)⟩
  refine ⟨M * q, ?_, (EReal.coe_mul M q).symm⟩
  have hM := EReal.coe_nonneg.mp hge
  have hB := EReal.coe_le_coe_iff.mp hle
  exact mul_le_mul hB hq hq0 (hM.trans hB)

variable {x : (⟨2, ![16384, 9344]⟩ : Shape).Idx → EReal} {s : (⟨2, ![16384, 1]⟩ : Shape).Idx → EReal}
  {w : (⟨2, ![9344, 12544]⟩ : Shape).Idx → EReal} {u : (⟨2, ![1, 12544]⟩ : Shape).Idx → EReal}

/-- THE PEAKS, from bounds on the four arrays. -/
theorem top_real (hx : ∀ r d, ∃ q : ℝ, |q| ≤ 448 ∧ x (ix2 r d) = (q : EReal)) (hw : ∀ d k, ∃ q : ℝ, |q| ≤ 448 ∧ w (ix2 d k) = (q : EReal))
    (hsu : ∀ r k, ∃ p : ℝ, |p| ≤ (2 : ℝ) ^ (36 : ℤ) ∧ s (ix2 r 0) * u (ix2 0 k) = (p : EReal)) (r : Fin 16384) (g : Fin 98) :
    ∃ a : ℝ, a < (2 : ℝ) ^ (126 : ℤ) ∧ Spec.top x s w u r g = (a : EReal) := by
  obtain ⟨a, ha, e⟩ := peak_real fun l => relu2_real
    (sum_real Finset.univ (fun d => x (ix2 r d) * w (ix2 d (Spec.col g l))) (448 * 448) fun d => by
      obtain ⟨p, hp, e⟩ := hx r d
      obtain ⟨q, hq, e'⟩ := hw d (Spec.col g l)
      refine ⟨p * q, ?_, by rw [e, e', EReal.coe_mul]⟩
      rw [abs_mul]
      exact mul_le_mul hp hq (abs_nonneg _) (by norm_num))
    (hsu r (Spec.col g l))
  refine ⟨a, lt_of_le_of_lt ha ?_, e⟩
  rw [Finset.card_univ, Fintype.card_fin]
  norm_num

end Cert.Bounds
-- ==== Proof.Pre.lean ====
/-
  Hand-written, untrusted. THE PRECONDITION, read element by element, and what it gives of the four arrays the call reads.
-/
module

public import proofs.«01_k».proof.Proof.Args
public import proofs.«01_k».proof.Proof.Bound
public import proofs.«01_k».proof.Proof.Gen.Pre_in_range

@[expose] public section

noncomputable section

namespace Cert.Args

open Idealize.ShloMosaic Cert.Pre_in_range Cert.Pre_in_range.Gen

variable {a0 : IVec S8x2048x9344 8} {a1 : FVec Ideal S8x2048 .f32} {a2 : IVec S9344x12544 8} {a3 : FVec Ideal S12544 .f32}

theorem byte_of {b : BitVec 8} (h : IntOp.andi (IntOp.cmpi .ne b 127#8) (IntOp.cmpi .ne b 255#8) = 1#1) : b ≠ 127#8 ∧ b ≠ 255#8 := by
  revert b
  decide +kernel

theorem bits_bound : Ideal.ofBits .f32 0x51800000#32 = (((2 : ℝ) ^ (36 : ℤ) : ℝ) : EReal) :=
  Maths.pow_eq 163 (by decide) (by decide)

theorem x_real (h : (fn (F := Ideal) a0 a1 a2 a3).1 = fun _ => 1#1) (r : Fin 16384) (d : Fin 9344) :
    ∃ q : ℝ, |q| ≤ 448 ∧ x a0 (ix2 r d) = (q : EReal) := by
  obtain ⟨i, hi⟩ : ∃ i, x a0 (ix2 r d) = Ideal.ofBits .fp8e4m3 (a0 i) := ⟨_, rfl⟩
  obtain ⟨h1, h2⟩ := byte_of (congrFun h i)
  rw [hi]
  exact Bounds.byte_real _ h1 h2

theorem w_real (h : (fn (F := Ideal) a0 a1 a2 a3).2.1 = fun _ => 1#1) (d : Fin 9344) (k : Fin 12544) :
    ∃ q : ℝ, |q| ≤ 448 ∧ w a2 (ix2 d k) = (q : EReal) := by
  obtain ⟨h1, h2⟩ := byte_of (congrFun h (ix2 d k))
  exact Bounds.byte_real _ h1 h2

theorem scales_read (i : Fin 8) (j : Fin 2048) (k : Fin 12544) :
    (fn (F := Ideal) a0 a1 a2 a3).2.2 (ix3 i j k)
      = Ideal.cmp .ole (max (a1 (ix2 i j)) (-(a1 (ix2 i j))) * max (a3 (ix1 k)) (-(a3 (ix1 k)))) (Ideal.ofBits .f32 0x51800000#32) := by
  pointwise [fn]
  rfl

theorem su_real (h : (fn (F := Ideal) a0 a1 a2 a3).2.2 = fun _ => 1#1) (r : Fin 16384) (k : Fin 12544) :
    ∃ p : ℝ, |p| ≤ (2 : ℝ) ^ (36 : ℤ) ∧ s a1 (ix2 r 0) * u a3 (ix2 0 k) = (p : EReal) := by
  obtain ⟨i, hi⟩ : ∃ i, s a1 (ix2 r 0) = a1 i := ⟨_, rfl⟩
  obtain ⟨j, hj⟩ : ∃ j, u a3 (ix2 0 k) = a3 j := ⟨_, rfl⟩
  have he := (scales_read (i 0) (i 1) (j 0)).symm.trans (congrFun h (ix3 (i 0) (i 1) (j 0)))
  rw [← eq_ix2 (n0 := 8) (n1 := 2048) i, ← eq_ix1 (n0 := 12544) j, bits_bound] at he
  rw [hi, hj]
  refine Bounds.prod_real ?_
  by_contra hn
  unfold Ideal.cmp at he
  simp only [decide_eq_false hn] at he
  exact absurd he (by decide)

end Cert.Args
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import proofs.«01_k».proof.Proof.Whole
public import proofs.«01_k».proof.Proof.Same
public import proofs.«01_k».proof.Proof.Pre
public import Idealize.ShloMosaic.Adequacy
public import Idealize.ShloMosaic.Init

@[expose] public section

noncomputable section

namespace Cert.Proof

open Idealize.ShloMosaic Idealize.ShloMosaic.TcCoe Idealize.SL.Sem

/-- The reference's results are the kernel's, from equal arguments within the precondition. -/
theorem results_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (c : Dev KernelIdeal.nD) (hpre : Cert.Pre_KernelIdeal_in_range (hPre_in_range := Cert.Pre_in_range.Gen.facts) m)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3)) :
    ReferenceIdeal.Arrays.codesOut m' c = KernelIdeal.Arrays.codesOut m c ∧ ReferenceIdeal.Arrays.scalesOut m' c = KernelIdeal.Arrays.scalesOut m c := by
  obtain ⟨p0, p1, p2⟩ := hpre c
  have top := Bounds.top_real (Args.x_real p0) (Args.w_real p1) (Args.su_real p2)
  unfold ReferenceIdeal.Arrays.codesOut KernelIdeal.Arrays.codesOut ReferenceIdeal.Arrays.scalesOut KernelIdeal.Arrays.scalesOut
  rw [ReferenceIdeal.Arrays.X_eq, ReferenceIdeal.Arrays.S_eq, ReferenceIdeal.Arrays.W_eq, ReferenceIdeal.Arrays.U_eq,
    KernelIdeal.Arrays.X_eq, KernelIdeal.Arrays.S_eq, KernelIdeal.Arrays.W_eq, KernelIdeal.Arrays.U_eq, h0, h1, h2, h3]
  constructor
  · refine funext fun y => congrArg (Spec.code _) ?_
    obtain ⟨a, ha, e⟩ := top (y 0) (Spec.grp (y 1))
    rw [e]
    exact (Maths.inv_eq ha).symm
  · refine funext fun y => ?_
    obtain ⟨a, ha, e⟩ := top (y 0) (y 1)
    unfold Spec.scales
    rw [e]
    exact (Maths.scale_eq ha).symm

theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre hargs
  refine ⟨fun c => KernelIdeal.Arrays.codesOut m c, fun c => KernelIdeal.Arrays.scalesOut m c, ?_, ?_⟩
  · refine (θ_run _ _ _).mono (fun r h c => ?_) (KernelIdeal.Whole.run m g)
    obtain ⟨e0, e1⟩ := KernelIdeal.Arrays.results m c h.1
    exact ⟨e0, e1, KernelIdeal.Whole.args_kept m h.1 c⟩
  · refine (θ_run _ _ _).mono (fun r h c => ?_) (Cert.ReferenceIdeal.Value.run_blocks m' g')
    obtain ⟨e0, e1, kept⟩ := h c
    obtain ⟨h0, h1, h2, h3⟩ := hargs c
    obtain ⟨q0, q1⟩ := results_eq m m' c hpre h0 h1 h2 h3
    exact ⟨e0.trans ((ReferenceIdeal.Arrays.codes_eq m' c).trans q0), e1.trans ((ReferenceIdeal.Arrays.scales_eq m' c).trans q1), kept⟩

theorem claim : Cert.Claim :=
  ⟨Cert.Kernel.Gen.facts, Cert.KernelIdeal.Gen.facts, Cert.ReferenceIdeal.Gen.facts, Cert.Pre_in_range.Gen.facts, Cert.Same.frame,
    fun m ρ _ => Cert.KernelIdeal.Whole.frame m ρ, fun m ρ _ => Cert.KernelIdeal.Whole.frame m ρ,
    fun m ρ _ => Cert.ReferenceIdeal.Gen.frame m ρ, fun m ρ _ => Cert.ReferenceIdeal.Gen.frame m ρ, trivial, algebraic⟩

end Cert.Proof

end
